-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  IdealRules.named_const.Statement Cert.KernelIdeal.κ "mask" .f32 0xCE6E6B29#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x1024 : Shape := ⟨3, ![1, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S1024x1024 : S_.BroadcastsInDim S1024x1024 (![] : Fin 0 → Fin S1024x1024.rank)
  bcast_S_S1024 : S_.BroadcastsInDim S1024 (![] : Fin 0 → Fin S1024.rank)
  bcast_S_S1x2048x1024 : S_.BroadcastsInDim S1x2048x1024 (![] : Fin 0 → Fin S1x2048x1024.rank)
  bcast_S_S1024x3072 : S_.BroadcastsInDim S1024x3072 (![] : Fin 0 → Fin S1024x3072.rank)
  bcast_S_S3072 : S_.BroadcastsInDim S3072 (![] : Fin 0 → Fin S3072.rank)
  bcast_S_S1024x1 : S_.BroadcastsInDim S1024x1 (![] : Fin 0 → Fin S1024x1.rank)
  bcast_S_S1 : S_.BroadcastsInDim S1 (![] : Fin 0 → Fin S1.rank)

variable [Facts]

def fn_part5 {F : FTy → Type} [FloatOps F] (main_arg15 : FVec F S1024x1 .f32) (main_arg16 : FVec F S1 .f32) (main_v42 : IVec S1024x1024 1) (main_v85 : IVec S1024 1) (main_v88 : IVec S1x2048x1024 1) (main_v91 : IVec S1024x3072 1) (main_v94 : IVec S3072 1) : IVec S1x2048x1024 1 × IVec S1024x3072 1 × IVec S3072 1 × IVec S1024x1 1 × IVec S1 1 × IVec S1024x1024 1 × IVec S1024 1 :=
  let main_v95 : FVec F S1024x1 .f32 := Host.absf main_arg15
  let main_cst_24 : FVec F S_ .f32 := constant S_ .f32 0x7F800000#32
  let main_v96 : FVec F S1024x1 .f32 := broadcastInDim S1024x1 ![] bcast_S_S1024x1 main_cst_24
  let main_v97 : IVec S1024x1 1 := cmpf .olt main_v95 main_v96
  let main_v98 : FVec F S1 .f32 := Host.absf main_arg16
  let main_cst_25 : FVec F S_ .f32 := constant S_ .f32 0x7F800000#32
  let main_v99 : FVec F S1 .f32 := broadcastInDim S1 ![] bcast_S_S1 main_cst_25
  let main_v100 : IVec S1 1 := cmpf .olt main_v98 main_v99
  (main_v88, main_v91, main_v94, main_v97, main_v100, main_v42, main_v85)

def fn_part4 {F : FTy → Type} [FloatOps F] (main_arg0 : FVec F S1x2048x1024 .f32) (main_arg1 : FVec F S1024x3072 .f32) (main_arg2 : FVec F S3072 .f32) (main_arg15 : FVec F S1024x1 .f32) (main_arg16 : FVec F S1 .f32) (main_arg24 : FVec F S1024 .f32) (main_arg26 : FVec F S1024 .f32) (main_v42 : IVec S1024x1024 1) (main_v73 : IVec S1024 1) (main_v74 : FVec F S1024 .f32) (main_v75 : FVec F S1024 .f32) : IVec S1x2048x1024 1 × IVec S1024x3072 1 × IVec S3072 1 × IVec S1024x1 1 × IVec S1 1 × IVec S1024x1024 1 × IVec S1024 1 :=
  let main_v76 : IVec S1024 1 := cmpf .olt main_v74 main_v75
  let main_v77 : IVec S1024 1 := andi main_v73 main_v76
  let main_v78 : FVec F S1024 .f32 := Host.absf main_arg24
  let main_cst_19 : FVec F S_ .f32 := constant S_ .f32 0x7F800000#32
  let main_v79 : FVec F S1024 .f32 := broadcastInDim S1024 ![] bcast_S_S1024 main_cst_19
  let main_v80 : IVec S1024 1 := cmpf .olt main_v78 main_v79
  let main_v81 : IVec S1024 1 := andi main_v77 main_v80
  let main_v82 : FVec F S1024 .f32 := Host.absf main_arg26
  let main_cst_20 : FVec F S_ .f32 := constant S_ .f32 0x7F800000#32
  let main_v83 : FVec F S1024 .f32 := broadcastInDim S1024 ![] bcast_S_S1024 main_cst_20
  let main_v84 : IVec S1024 1 := cmpf .olt main_v82 main_v83
  let main_v85 : IVec S1024 1 := andi main_v81 main_v84
  let main_v86 : FVec F S1x2048x1024 .f32 := Host.absf main_arg0
  let main_cst_21 : FVec F S_ .f32 := constant S_ .f32 0x7F800000#32
  let main_v87 : FVec F S1x2048x1024 .f32 := broadcastInDim S1x2048x1024 ![] bcast_S_S1x2048x1024 main_cst_21
  let main_v88 : IVec S1x2048x1024 1 := cmpf .olt main_v86 main_v87
  let main_v89 : FVec F S1024x3072 .f32 := Host.absf main_arg1
  let main_cst_22 : FVec F S_ .f32 := constant S_ .f32 0x7F800000#32
  let main_v90 : FVec F S1024x3072 .f32 := broadcastInDim S1024x3072 ![] bcast_S_S1024x3072 main_cst_22
  let main_v91 : IVec S1024x3072 1 := cmpf .olt main_v89 main_v90
  let main_v92 : FVec F S3072 .f32 := Host.absf main_arg2
  let main_cst_23 : FVec F S_ .f32 := constant S_ .f32 0x7F800000#32
  let main_v93 : FVec F S3072 .f32 := broadcastInDim S3072 ![] bcast_S_S3072 main_cst_23
  let main_v94 : IVec S3072 1 := cmpf .olt main_v92 main_v93
  fn_part5 (F := F) main_arg15 main_arg16 main_v42 main_v85 main_v88 main_v91 main_v94

def fn_part3 {F : FTy → Type} [FloatOps F] (main_arg0 : FVec F S1x2048x1024 .f32) (main_arg1 : FVec F S1024x3072 .f32) (main_arg2 : FVec F S3072 .f32) (main_arg12 : FVec F S1024 .f32) (main_arg14 : FVec F S1024 .f32) (main_arg15 : FVec F S1024x1 .f32) (main_arg16 : FVec F S1 .f32) (main_arg18 : FVec F S1024 .f32) (main_arg20 : FVec F S1024 .f32) (main_arg22 : FVec F S1024 .f32) (main_arg24 : FVec F S1024 .f32) (main_arg26 : FVec F S1024 .f32) (main_v42 : IVec S1024x1024 1) (main_v53 : IVec S1024 1) (main_v56 : IVec S1024 1) : IVec S1x2048x1024 1 × IVec S1024x3072 1 × IVec S3072 1 × IVec S1024x1 1 × IVec S1 1 × IVec S1024x1024 1 × IVec S1024 1 :=
  let main_v57 : IVec S1024 1 := andi main_v53 main_v56
  let main_v58 : FVec F S1024 .f32 := Host.absf main_arg12
  let main_cst_14 : FVec F S_ .f32 := constant S_ .f32 0x7F800000#32
  let main_v59 : FVec F S1024 .f32 := broadcastInDim S1024 ![] bcast_S_S1024 main_cst_14
  let main_v60 : IVec S1024 1 := cmpf .olt main_v58 main_v59
  let main_v61 : IVec S1024 1 := andi main_v57 main_v60
  let main_v62 : FVec F S1024 .f32 := Host.absf main_arg14
  let main_cst_15 : FVec F S_ .f32 := constant S_ .f32 0x7F800000#32
  let main_v63 : FVec F S1024 .f32 := broadcastInDim S1024 ![] bcast_S_S1024 main_cst_15
  let main_v64 : IVec S1024 1 := cmpf .olt main_v62 main_v63
  let main_v65 : IVec S1024 1 := andi main_v61 main_v64
  let main_v66 : FVec F S1024 .f32 := Host.absf main_arg18
  let main_cst_16 : FVec F S_ .f32 := constant S_ .f32 0x7F800000#32
  let main_v67 : FVec F S1024 .f32 := broadcastInDim S1024 ![] bcast_S_S1024 main_cst_16
  let main_v68 : IVec S1024 1 := cmpf .olt main_v66 main_v67
  let main_v69 : IVec S1024 1 := andi main_v65 main_v68
  let main_v70 : FVec F S1024 .f32 := Host.absf main_arg20
  let main_cst_17 : FVec F S_ .f32 := constant S_ .f32 0x7F800000#32
  let main_v71 : FVec F S1024 .f32 := broadcastInDim S1024 ![] bcast_S_S1024 main_cst_17
  let main_v72 : IVec S1024 1 := cmpf .olt main_v70 main_v71
  let main_v73 : IVec S1024 1 := andi main_v69 main_v72
  let main_v74 : FVec F S1024 .f32 := Host.absf main_arg22
  let main_cst_18 : FVec F S_ .f32 := constant S_ .f32 0x7F800000#32
  let main_v75 : FVec F S1024 .f32 := broadcastInDim S1024 ![] bcast_S_S1024 main_cst_18
  fn_part4 (F := F) main_arg0 main_arg1 main_arg2 main_arg15 main_arg16 main_arg24 main_arg26 main_v42 main_v73 main_v74 main_v75

def fn_part2 {F : FTy → Type} [FloatOps F] (main_arg0 : FVec F S1x2048x1024 .f32) (main_arg1 : FVec F S1024x3072 .f32) (main_arg2 : FVec F S3072 .f32) (main_arg4 : FVec F S1024 .f32) (main_arg6 : FVec F S1024 .f32) (main_arg8 : FVec F S1024 .f32) (main_arg10 : FVec F S1024 .f32) (main_arg12 : FVec F S1024 .f32) (main_arg14 : FVec F S1024 .f32) (main_arg15 : FVec F S1024x1 .f32) (main_arg16 : FVec F S1 .f32) (main_arg18 : FVec F S1024 .f32) (main_arg20 : FVec F S1024 .f32) (main_arg22 : FVec F S1024 .f32) (main_arg24 : FVec F S1024 .f32) (main_arg25 : FVec F S1024x1024 .f32) (main_arg26 : FVec F S1024 .f32) (main_v34 : IVec S1024x1024 1) (main_v37 : IVec S1024x1024 1) : IVec S1x2048x1024 1 × IVec S1024x3072 1 × IVec S3072 1 × IVec S1024x1 1 × IVec S1 1 × IVec S1024x1024 1 × IVec S1024 1 :=
  let main_v38 : IVec S1024x1024 1 := andi main_v34 main_v37
  let main_v39 : FVec F S1024x1024 .f32 := Host.absf main_arg25
  let main_cst_9 : FVec F S_ .f32 := constant S_ .f32 0x7F800000#32
  let main_v40 : FVec F S1024x1024 .f32 := broadcastInDim S1024x1024 ![] bcast_S_S1024x1024 main_cst_9
  let main_v41 : IVec S1024x1024 1 := cmpf .olt main_v39 main_v40
  let main_v42 : IVec S1024x1024 1 := andi main_v38 main_v41
  let main_v43 : FVec F S1024 .f32 := Host.absf main_arg4
  let main_cst_10 : FVec F S_ .f32 := constant S_ .f32 0x7F800000#32
  let main_v44 : FVec F S1024 .f32 := broadcastInDim S1024 ![] bcast_S_S1024 main_cst_10
  let main_v45 : IVec S1024 1 := cmpf .olt main_v43 main_v44
  let main_v46 : FVec F S1024 .f32 := Host.absf main_arg6
  let main_cst_11 : FVec F S_ .f32 := constant S_ .f32 0x7F800000#32
  let main_v47 : FVec F S1024 .f32 := broadcastInDim S1024 ![] bcast_S_S1024 main_cst_11
  let main_v48 : IVec S1024 1 := cmpf .olt main_v46 main_v47
  let main_v49 : IVec S1024 1 := andi main_v45 main_v48
  let main_v50 : FVec F S1024 .f32 := Host.absf main_arg8
  let main_cst_12 : FVec F S_ .f32 := constant S_ .f32 0x7F800000#32
  let main_v51 : FVec F S1024 .f32 := broadcastInDim S1024 ![] bcast_S_S1024 main_cst_12
  let main_v52 : IVec S1024 1 := cmpf .olt main_v50 main_v51
  let main_v53 : IVec S1024 1 := andi main_v49 main_v52
  let main_v54 : FVec F S1024 .f32 := Host.absf main_arg10
  let main_cst_13 : FVec F S_ .f32 := constant S_ .f32 0x7F800000#32
  let main_v55 : FVec F S1024 .f32 := broadcastInDim S1024 ![] bcast_S_S1024 main_cst_13
  let main_v56 : IVec S1024 1 := cmpf .olt main_v54 main_v55
  fn_part3 (F := F) main_arg0 main_arg1 main_arg2 main_arg12 main_arg14 main_arg15 main_arg16 main_arg18 main_arg20 main_arg22 main_arg24 main_arg26 main_v42 main_v53 main_v56

def fn_part1 {F : FTy → Type} [FloatOps F] (main_arg0 : FVec F S1x2048x1024 .f32) (main_arg1 : FVec F S1024x3072 .f32) (main_arg2 : FVec F S3072 .f32) (main_arg4 : FVec F S1024 .f32) (main_arg6 : FVec F S1024 .f32) (main_arg8 : FVec F S1024 .f32) (main_arg10 : FVec F S1024 .f32) (main_arg12 : FVec F S1024 .f32) (main_arg13 : FVec F S1024x1024 .f32) (main_arg14 : FVec F S1024 .f32) (main_arg15 : FVec F S1024x1 .f32) (main_arg16 : FVec F S1 .f32) (main_arg17 : FVec F S1024x1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024x1024 .f32) (main_arg24 : FVec F S1024 .f32) (main_arg25 : FVec F S1024x1024 .f32) (main_arg26 : FVec F S1024 .f32) (main_v18 : IVec S1024x1024 1) : IVec S1x2048x1024 1 × IVec S1024x3072 1 × IVec S3072 1 × IVec S1024x1 1 × IVec S1 1 × IVec S1024x1024 1 × IVec S1024 1 :=
  let main_v19 : FVec F S1024x1024 .f32 := Host.absf main_arg13
  let main_cst_4 : FVec F S_ .f32 := constant S_ .f32 0x7F800000#32
  let main_v20 : FVec F S1024x1024 .f32 := broadcastInDim S1024x1024 ![] bcast_S_S1024x1024 main_cst_4
  let main_v21 : IVec S1024x1024 1 := cmpf .olt main_v19 main_v20
  let main_v22 : IVec S1024x1024 1 := andi main_v18 main_v21
  let main_v23 : FVec F S1024x1024 .f32 := Host.absf main_arg17
  let main_cst_5 : FVec F S_ .f32 := constant S_ .f32 0x7F800000#32
  let main_v24 : FVec F S1024x1024 .f32 := broadcastInDim S1024x1024 ![] bcast_S_S1024x1024 main_cst_5
  let main_v25 : IVec S1024x1024 1 := cmpf .olt main_v23 main_v24
  let main_v26 : IVec S1024x1024 1 := andi main_v22 main_v25
  let main_v27 : FVec F S1024x1024 .f32 := Host.absf main_arg19
  let main_cst_6 : FVec F S_ .f32 := constant S_ .f32 0x7F800000#32
  let main_v28 : FVec F S1024x1024 .f32 := broadcastInDim S1024x1024 ![] bcast_S_S1024x1024 main_cst_6
  let main_v29 : IVec S1024x1024 1 := cmpf .olt main_v27 main_v28
  let main_v30 : IVec S1024x1024 1 := andi main_v26 main_v29
  let main_v31 : FVec F S1024x1024 .f32 := Host.absf main_arg21
  let main_cst_7 : FVec F S_ .f32 := constant S_ .f32 0x7F800000#32
  let main_v32 : FVec F S1024x1024 .f32 := broadcastInDim S1024x1024 ![] bcast_S_S1024x1024 main_cst_7
  let main_v33 : IVec S1024x1024 1 := cmpf .olt main_v31 main_v32
  let main_v34 : IVec S1024x1024 1 := andi main_v30 main_v33
  let main_v35 : FVec F S1024x1024 .f32 := Host.absf main_arg23
  let main_cst_8 : FVec F S_ .f32 := constant S_ .f32 0x7F800000#32
  let main_v36 : FVec F S1024x1024 .f32 := broadcastInDim S1024x1024 ![] bcast_S_S1024x1024 main_cst_8
  let main_v37 : IVec S1024x1024 1 := cmpf .olt main_v35 main_v36
  fn_part2 (F := F) main_arg0 main_arg1 main_arg2 main_arg4 main_arg6 main_arg8 main_arg10 main_arg12 main_arg14 main_arg15 main_arg16 main_arg18 main_arg20 main_arg22 main_arg24 main_arg25 main_arg26 main_v34 main_v37

def fn {F : FTy → Type} [FloatOps F] (main_arg0 : FVec F S1x2048x1024 .f32) (main_arg1 : FVec F S1024x3072 .f32) (main_arg2 : FVec F S3072 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1 .f32) (main_arg16 : FVec F S1 .f32) (main_arg17 : FVec F S1024x1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024x1024 .f32) (main_arg24 : FVec F S1024 .f32) (main_arg25 : FVec F S1024x1024 .f32) (main_arg26 : FVec F S1024 .f32) : IVec S1x2048x1024 1 × IVec S1024x3072 1 × IVec S3072 1 × IVec S1024x1 1 × IVec S1 1 × IVec S1024x1024 1 × IVec S1024 1 :=
  let main_v0 : FVec F S1024x1024 .f32 := Host.absf main_arg3
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024x1024 .f32 := Host.absf main_arg5
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : IVec S1024x1024 1 := andi main_v2 main_v5
  let main_v7 : FVec F S1024x1024 .f32 := Host.absf main_arg7
  let main_cst_1 : FVec F S_ .f32 := constant S_ .f32 0x7F800000#32
  let main_v8 : FVec F S1024x1024 .f32 := broadcastInDim S1024x1024 ![] bcast_S_S1024x1024 main_cst_1
  let main_v9 : IVec S1024x1024 1 := cmpf .olt main_v7 main_v8
  let main_v10 : IVec S1024x1024 1 := andi main_v6 main_v9
  let main_v11 : FVec F S1024x1024 .f32 := Host.absf main_arg9
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  let main_v14 : IVec S1024x1024 1 := andi main_v10 main_v13
  let main_v15 : FVec F S1024x1024 .f32 := Host.absf main_arg11
  let main_cst_3 : FVec F S_ .f32 := constant S_ .f32 0x7F800000#32
  let main_v16 : FVec F S1024x1024 .f32 := broadcastInDim S1024x1024 ![] bcast_S_S1024x1024 main_cst_3
  let main_v17 : IVec S1024x1024 1 := cmpf .olt main_v15 main_v16
  let main_v18 : IVec S1024x1024 1 := andi main_v14 main_v17
  fn_part1 (F := F) main_arg0 main_arg1 main_arg2 main_arg4 main_arg6 main_arg8 main_arg10 main_arg12 main_arg13 main_arg14 main_arg15 main_arg16 main_arg17 main_arg18 main_arg19 main_arg20 main_arg21 main_arg22 main_arg23 main_arg24 main_arg25 main_arg26 main_v18
-- ==== Kernel.lean ====
abbrev S1x2048x1024 : Shape := ⟨3, ![1, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S2048x1024 : Shape := ⟨2, ![2048, 1024]⟩
abbrev S1x3072 : Shape := ⟨2, ![1, 3072]⟩
abbrev S1x1024 : Shape := ⟨2, ![1, 1024]⟩
abbrev S1x1 : Shape := ⟨2, ![1, 1]⟩
abbrev S2048x3072 : Shape := ⟨2, ![2048, 3072]⟩
abbrev S2048x1 : Shape := ⟨2, ![2048, 1]⟩
abbrev S256x1024 : Shape := ⟨2, ![256, 1024]⟩
abbrev S256x3072 : Shape := ⟨2, ![256, 3072]⟩
abbrev S256x1 : Shape := ⟨2, ![256, 1]⟩
abbrev S192x192 : Shape := ⟨2, ![192, 192]⟩
abbrev S_ : Shape := ⟨0, ![]⟩
abbrev S192x192x8 : Shape := ⟨3, ![192, 192, 8]⟩
abbrev S192x1536 : Shape := ⟨2, ![192, 1536]⟩
abbrev S1024x2048 : Shape := ⟨2, ![1024, 2048]⟩
abbrev S2048 : Shape := ⟨1, ![2048]⟩
abbrev S1x2048 : Shape := ⟨2, ![1, 2048]⟩
abbrev S1536x1024 : Shape := ⟨2, ![1536, 1024]⟩
abbrev S192x2048 : Shape := ⟨2, ![192, 2048]⟩
abbrev S192x1024 : Shape := ⟨2, ![192, 1024]⟩
abbrev S256x2048 : Shape := ⟨2, ![256, 2048]⟩
abbrev S256 : Shape := ⟨1, ![256]⟩
abbrev S64x2048 : Shape := ⟨2, ![64, 2048]⟩
abbrev S64x1 : Shape := ⟨2, ![64, 1]⟩
abbrev S64 : Shape := ⟨1, ![64]⟩
abbrev S64x1024 : Shape := ⟨2, ![64, 1024]⟩
abbrev S256x128 : Shape := ⟨2, ![256, 128]⟩
abbrev S256x256 : Shape := ⟨2, ![256, 256]⟩
abbrev S256x64 : Shape := ⟨2, ![256, 64]⟩
abbrev S1x64 : Shape := ⟨2, ![1, 64]⟩
abbrev S512x128 : Shape := ⟨2, ![512, 128]⟩
abbrev S192x128 : Shape := ⟨2, ![192, 128]⟩
abbrev S64x128 : Shape := ⟨2, ![64, 128]⟩
abbrev S512x192 : Shape := ⟨2, ![512, 192]⟩
abbrev S512x64 : Shape := ⟨2, ![512, 64]⟩
abbrev S192x64 : Shape := ⟨2, ![192, 64]⟩
abbrev S512 : Shape := ⟨1, ![512]⟩
abbrev S512x1 : Shape := ⟨2, ![512, 1]⟩
abbrev S64x64 : Shape := ⟨2, ![64, 64]⟩

abbrev nBuf : Space → Nat
  | .hbm => 72
  | .vmem => 87
  | .smem => 0
  | _ => 0

abbrev bufTy : (tb : Table) → Fin (tcTables nBuf tb) → BufTy
  | .hbm, ⟨0, _⟩ => ⟨S1x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1, .f32⟩
  | .hbm, ⟨16, _⟩ => ⟨S1, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S1024, .f32⟩
  | .hbm, ⟨21, _⟩ => ⟨S1024x1024, .f32⟩
  | .hbm, ⟨22, _⟩ => ⟨S1024, .f32⟩
  | .hbm, ⟨23, _⟩ => ⟨S1024x1024, .f32⟩
  | .hbm, ⟨24, _⟩ => ⟨S1024, .f32⟩
  | .hbm, ⟨25, _⟩ => ⟨S1024x1024, .f32⟩
  | .hbm, ⟨26, _⟩ => ⟨S1024, .f32⟩
  | .hbm, ⟨27, _⟩ => ⟨S2048x1024, .f32⟩
  | .hbm, ⟨28, _⟩ => ⟨S1x3072, .f32⟩
  | .hbm, ⟨29, _⟩ => ⟨S1x1024, .f32⟩
  | .hbm, ⟨30, _⟩ => ⟨S1x1024, .f32⟩
  | .hbm, ⟨31, _⟩ => ⟨S1x1, .f32⟩
  | .hbm, ⟨32, _⟩ => ⟨S2048x3072, .bf16⟩
  | .hbm, ⟨33, _⟩ => ⟨S2048x1024, .bf16⟩
  | .hbm, ⟨34, _⟩ => ⟨S2048x1024, .bf16⟩
  | .hbm, ⟨35, _⟩ => ⟨S2048x1, .f32⟩
  | .hbm, ⟨36, _⟩ => ⟨S192x192, .i32⟩
  | .hbm, ⟨37, _⟩ => ⟨S192x192, .i32⟩
  | .hbm, ⟨38, _⟩ => ⟨S_, .i32⟩
  | .hbm, ⟨39, _⟩ => ⟨S192x192, .i32⟩
  | .hbm, ⟨40, _⟩ => ⟨S192x192, .i32⟩
  | .hbm, ⟨41, _⟩ => ⟨S192x192, .i1⟩
  | .hbm, ⟨42, _⟩ => ⟨S192x192, .f32⟩
  | .hbm, ⟨43, _⟩ => ⟨S192x192x8, .f32⟩
  | .hbm, ⟨44, _⟩ => ⟨S192x1536, .f32⟩
  | .hbm, ⟨45, _⟩ => ⟨S_, .f32⟩
  | .hbm, ⟨46, _⟩ => ⟨S192x1536, .f32⟩
  | .hbm, ⟨47, _⟩ => ⟨S192x1536, .f32⟩
  | .hbm, ⟨48, _⟩ => ⟨S1024x2048, .f32⟩
  | .hbm, ⟨49, _⟩ => ⟨S2048, .f32⟩
  | .hbm, ⟨50, _⟩ => ⟨S1x2048, .f32⟩
  | .hbm, ⟨51, _⟩ => ⟨S1536x1024, .f32⟩
  | .hbm, ⟨52, _⟩ => ⟨S192x2048, .bf16⟩
  | .hbm, ⟨53, _⟩ => ⟨S1x2048, .f32⟩
  | .hbm, ⟨54, _⟩ => ⟨S2048x1, .f32⟩
  | .hbm, ⟨55, _⟩ => ⟨S1024x2048, .f32⟩
  | .hbm, ⟨56, _⟩ => ⟨S2048, .f32⟩
  | .hbm, ⟨57, _⟩ => ⟨S1x2048, .f32⟩
  | .hbm, ⟨58, _⟩ => ⟨S1x2048, .f32⟩
  | .hbm, ⟨59, _⟩ => ⟨S64x2048, .bf16⟩
  | .hbm, ⟨60, _⟩ => ⟨S64x1, .f32⟩
  | .hbm, ⟨61, _⟩ => ⟨S2048x1024, .bf16⟩
  | .hbm, ⟨62, _⟩ => ⟨S1x64, .f32⟩
  | .hbm, ⟨63, _⟩ => ⟨S2048x1024, .bf16⟩
  | .hbm, ⟨64, _⟩ => ⟨S2048x1024, .bf16⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S2048x1024, .f32⟩
  | .hbm, ⟨71, _⟩ => ⟨S1x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x3072, .f32⟩
  | .local _ .vmem, ⟨3, _⟩ => ⟨S1024x1024, .f32⟩
  | .local _ .vmem, ⟨4, _⟩ => ⟨S1024x1024, .f32⟩
  | .local _ .vmem, ⟨5, _⟩ => ⟨S1024x1, .f32⟩
  | .local _ .vmem, ⟨6, _⟩ => ⟨S1x3072, .f32⟩
  | .local _ .vmem, ⟨7, _⟩ => ⟨S1x1024, .f32⟩
  | .local _ .vmem, ⟨8, _⟩ => ⟨S1x1024, .f32⟩
  | .local _ .vmem, ⟨9, _⟩ => ⟨S1x1, .f32⟩
  | .local _ .vmem, ⟨10, _⟩ => ⟨S256x3072, .bf16⟩
  | .local _ .vmem, ⟨11, _⟩ => ⟨S256x3072, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1, .f32⟩
  | .local _ .vmem, ⟨17, _⟩ => ⟨S256x1, .f32⟩
  | .local _ .vmem, ⟨18, _⟩ => ⟨S192x1536, .f32⟩
  | .local _ .vmem, ⟨19, _⟩ => ⟨S1536x1024, .f32⟩
  | .local _ .vmem, ⟨20, _⟩ => ⟨S1024x2048, .f32⟩
  | .local _ .vmem, ⟨21, _⟩ => ⟨S1x2048, .f32⟩
  | .local _ .vmem, ⟨22, _⟩ => ⟨S192x2048, .bf16⟩
  | .local _ .vmem, ⟨23, _⟩ => ⟨S256x1, .f32⟩
  | .local _ .vmem, ⟨24, _⟩ => ⟨S256x1, .f32⟩
  | .local _ .vmem, ⟨25, _⟩ => ⟨S1x2048, .f32⟩
  | .local _ .vmem, ⟨26, _⟩ => ⟨S256x1, .f32⟩
  | .local _ .vmem, ⟨27, _⟩ => ⟨S256x1, .f32⟩
  | .local _ .vmem, ⟨28, _⟩ => ⟨S1x2048, .f32⟩
  | .local _ .vmem, ⟨29, _⟩ => ⟨S2048x1024, .f32⟩
  | .local _ .vmem, ⟨30, _⟩ => ⟨S1024x2048, .f32⟩
  | .local _ .vmem, ⟨31, _⟩ => ⟨S1x2048, .f32⟩
  | .local _ .vmem, ⟨32, _⟩ => ⟨S64x2048, .bf16⟩
  | .local _ .vmem, ⟨33, _⟩ => ⟨S64x1, .f32⟩
  | .local _ .vmem, ⟨34, _⟩ => ⟨S256x128, .bf16⟩
  | .local _ .vmem, ⟨35, _⟩ => ⟨S256x128, .bf16⟩
  | .local _ .vmem, ⟨36, _⟩ => ⟨S256x128, .bf16⟩
  | .local _ .vmem, ⟨37, _⟩ => ⟨S256x128, .bf16⟩
  | .local _ .vmem, ⟨38, _⟩ => ⟨S256x128, .bf16⟩
  | .local _ .vmem, ⟨39, _⟩ => ⟨S256x128, .bf16⟩
  | .local _ .vmem, ⟨40, _⟩ => ⟨S256x128, .bf16⟩
  | .local _ .vmem, ⟨41, _⟩ => ⟨S256x128, .bf16⟩
  | .local _ .vmem, ⟨42, _⟩ => ⟨S256x128, .bf16⟩
  | .local _ .vmem, ⟨43, _⟩ => ⟨S256x128, .bf16⟩
  | .local _ .vmem, ⟨44, _⟩ => ⟨S256x128, .bf16⟩
  | .local _ .vmem, ⟨45, _⟩ => ⟨S256x128, .bf16⟩
  | .local _ .vmem, ⟨46, _⟩ => ⟨S256x128, .bf16⟩
  | .local _ .vmem, ⟨47, _⟩ => ⟨S256x128, .bf16⟩
  | .local _ .vmem, ⟨48, _⟩ => ⟨S256x128, .bf16⟩
  | .local _ .vmem, ⟨49, _⟩ => ⟨S256x128, .bf16⟩
  | .local _ .vmem, ⟨50, _⟩ => ⟨S512x128, .bf16⟩
  | .local _ .vmem, ⟨51, _⟩ => ⟨S512x128, .bf16⟩
  | .local _ .vmem, ⟨52, _⟩ => ⟨S512x128, .bf16⟩
  | .local _ .vmem, ⟨53, _⟩ => ⟨S512x128, .bf16⟩
  | .local _ .vmem, ⟨54, _⟩ => ⟨S192x128, .bf16⟩
  | .local _ .vmem, ⟨55, _⟩ => ⟨S192x128, .bf16⟩
  | .local _ .vmem, ⟨56, _⟩ => ⟨S192x128, .bf16⟩
  | .local _ .vmem, ⟨57, _⟩ => ⟨S192x128, .bf16⟩
  | .local _ .vmem, ⟨58, _⟩ => ⟨S64x128, .bf16⟩
  | .local _ .vmem, ⟨59, _⟩ => ⟨S64x128, .bf16⟩
  | .local _ .vmem, ⟨60, _⟩ => ⟨S64x128, .bf16⟩
  | .local _ .vmem, ⟨61, _⟩ => ⟨S64x128, .bf16⟩
  | .local _ .vmem, ⟨62, _⟩ => ⟨S1x64, .f32⟩
  | .local _ .vmem, ⟨63, _⟩ => ⟨S512x128, .bf16⟩
  | .local _ .vmem, ⟨64, _⟩ => ⟨S512x128, .bf16⟩
  | .local _ .vmem, ⟨65, _⟩ => ⟨S512x128, .bf16⟩
  | .local _ .vmem, ⟨66, _⟩ => ⟨S512x128, .bf16⟩
  | .local _ .vmem, ⟨67, _⟩ => ⟨S256x1024, .f32⟩
  | .local _ .vmem, ⟨68, _⟩ => ⟨S256x1024, .f32⟩
  | .local _ .vmem, ⟨69, _⟩ => ⟨S256x1024, .bf16⟩
  | .local _ .vmem, ⟨70, _⟩ => ⟨S256x1024, .bf16⟩
  | .local _ .vmem, ⟨71, _⟩ => ⟨S256x1024, .bf16⟩
  | .local _ .vmem, ⟨72, _⟩ => ⟨S256x1024, .bf16⟩
  | .local _ .vmem, ⟨73, _⟩ => ⟨S256x1024, .bf16⟩
  | .local _ .vmem, ⟨74, _⟩ => ⟨S256x1024, .bf16⟩
  | .local _ .vmem, ⟨75, _⟩ => ⟨S1024x1024, .f32⟩
  | .local _ .vmem, ⟨76, _⟩ => ⟨S1x1024, .f32⟩
  | .local _ .vmem, ⟨77, _⟩ => ⟨S1024x1024, .f32⟩
  | .local _ .vmem, ⟨78, _⟩ => ⟨S1x1024, .f32⟩
  | .local _ .vmem, ⟨79, _⟩ => ⟨S1024x1024, .f32⟩
  | .local _ .vmem, ⟨80, _⟩ => ⟨S1x1024, .f32⟩
  | .local _ .vmem, ⟨81, _⟩ => ⟨S1024x1024, .f32⟩
  | .local _ .vmem, ⟨82, _⟩ => ⟨S1x1024, .f32⟩
  | .local _ .vmem, ⟨83, _⟩ => ⟨S1024x1024, .f32⟩
  | .local _ .vmem, ⟨84, _⟩ => ⟨S1x1024, .f32⟩
  | .local _ .vmem, ⟨85, _⟩ => ⟨S256x1024, .f32⟩
  | .local _ .vmem, ⟨86, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | _, _ => false

abbrev semScoped : Fin 0 → Bool
  | ⟨_, h⟩ => absurd h (Nat.not_lt_zero _)

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  ofTc nBuf bufTy 0 87 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5_0 : Ref sig .tc := ⟨.hbm, 32, rfl⟩
abbrev main_v5_1 : Ref sig .tc := ⟨.hbm, 33, rfl⟩
abbrev main_v5_2 : Ref sig .tc := ⟨.hbm, 34, rfl⟩
abbrev main_v5_3 : Ref sig .tc := ⟨.hbm, 35, rfl⟩
abbrev main_v6 : Ref sig .tc := ⟨.hbm, 36, rfl⟩
abbrev main_v7 : Ref sig .tc := ⟨.hbm, 37, rfl⟩
abbrev main_c : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27_0 : Ref sig .tc := ⟨.hbm, 59, rfl⟩
abbrev main_v27_1 : Ref sig .tc := ⟨.hbm, 60, rfl⟩
abbrev main_v28 : Ref sig .tc := ⟨.hbm, 61, rfl⟩
abbrev main_v29 : Ref sig .tc := ⟨.hbm, 62, rfl⟩
abbrev main_v30_0 : Ref sig .tc := ⟨.hbm, 63, rfl⟩
abbrev main_v30_1 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc3_stg0_0 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg4_1 : Ref sig .tc := ⟨.vmem, 43, rfl⟩
abbrev cc4_stg5_0 : Ref sig .tc := ⟨.vmem, 44, rfl⟩
abbrev cc4_stg5_1 : Ref sig .tc := ⟨.vmem, 45, rfl⟩
abbrev cc4_stg6_0 : Ref sig .tc := ⟨.vmem, 46, rfl⟩
abbrev cc4_stg6_1 : Ref sig .tc := ⟨.vmem, 47, rfl⟩
abbrev cc4_stg7_0 : Ref sig .tc := ⟨.vmem, 48, rfl⟩
abbrev cc4_stg7_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg3_1 : Ref sig .tc := ⟨.vmem, 57, rfl⟩
abbrev cc5_stg4_0 : Ref sig .tc := ⟨.vmem, 58, rfl⟩
abbrev cc5_stg4_1 : Ref sig .tc := ⟨.vmem, 59, rfl⟩
abbrev cc5_stg5_0 : Ref sig .tc := ⟨.vmem, 60, rfl⟩
abbrev cc5_stg5_1 : Ref sig .tc := ⟨.vmem, 61, rfl⟩
abbrev cc5_stg6_0 : Ref sig .tc := ⟨.vmem, 62, rfl⟩
abbrev cc5_stg7_0 : Ref sig .tc := ⟨.vmem, 63, rfl⟩
abbrev cc5_stg7_1 : Ref sig .tc := ⟨.vmem, 64, rfl⟩
abbrev cc5_stg8_0 : Ref sig .tc := ⟨.vmem, 65, rfl⟩
abbrev cc5_stg8_1 : Ref sig .tc := ⟨.vmem, 66, rfl⟩
abbrev cc6_stg0_0 : Ref sig .tc := ⟨.vmem, 67, rfl⟩
abbrev cc6_stg0_1 : Ref sig .tc := ⟨.vmem, 68, rfl⟩
abbrev cc6_stg1_0 : Ref sig .tc := ⟨.vmem, 69, rfl⟩
abbrev cc6_stg1_1 : Ref sig .tc := ⟨.vmem, 70, rfl⟩
abbrev cc6_stg2_0 : Ref sig .tc := ⟨.vmem, 71, rfl⟩
abbrev cc6_stg2_1 : Ref sig .tc := ⟨.vmem, 72, rfl⟩
abbrev cc6_stg3_0 : Ref sig .tc := ⟨.vmem, 73, rfl⟩
abbrev cc6_stg3_1 : Ref sig .tc := ⟨.vmem, 74, rfl⟩
abbrev cc6_stg4_0 : Ref sig .tc := ⟨.vmem, 75, rfl⟩
abbrev cc6_stg5_0 : Ref sig .tc := ⟨.vmem, 76, rfl⟩
abbrev cc6_stg6_0 : Ref sig .tc := ⟨.vmem, 77, rfl⟩
abbrev cc6_stg7_0 : Ref sig .tc := ⟨.vmem, 78, rfl⟩
abbrev cc6_stg8_0 : Ref sig .tc := ⟨.vmem, 79, rfl⟩
abbrev cc6_stg9_0 : Ref sig .tc := ⟨.vmem, 80, rfl⟩
abbrev cc6_stg10_0 : Ref sig .tc := ⟨.vmem, 81, rfl⟩
abbrev cc6_stg11_0 : Ref sig .tc := ⟨.vmem, 82, rfl⟩
abbrev cc6_stg12_0 : Ref sig .tc := ⟨.vmem, 83, rfl⟩
abbrev cc6_stg13_0 : Ref sig .tc := ⟨.vmem, 84, rfl⟩
abbrev cc6_stg14_0 : Ref sig .tc := ⟨.vmem, 85, rfl⟩
abbrev cc6_stg14_1 : Ref sig .tc := ⟨.vmem, 86, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem1_0 : DmaSem sig := 19
abbrev cc1_sem2_0 : DmaSem sig := 20
abbrev cc1_sem3_0 : DmaSem sig := 21
abbrev cc1_sem4_0 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem2_1 : DmaSem sig := 27
abbrev cc3_sem0_0 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41
abbrev cc4_sem4_0 : DmaSem sig := 42
abbrev cc4_sem4_1 : DmaSem sig := 43
abbrev cc4_sem5_0 : DmaSem sig := 44
abbrev cc4_sem5_1 : DmaSem sig := 45
abbrev cc4_sem6_0 : DmaSem sig := 46
abbrev cc4_sem6_1 : DmaSem sig := 47
abbrev cc4_sem7_0 : DmaSem sig := 48
abbrev cc4_sem7_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem3_1 : DmaSem sig := 57
abbrev cc5_sem4_0 : DmaSem sig := 58
abbrev cc5_sem4_1 : DmaSem sig := 59
abbrev cc5_sem5_0 : DmaSem sig := 60
abbrev cc5_sem5_1 : DmaSem sig := 61
abbrev cc5_sem6_0 : DmaSem sig := 62
abbrev cc5_sem7_0 : DmaSem sig := 63
abbrev cc5_sem7_1 : DmaSem sig := 64
abbrev cc5_sem8_0 : DmaSem sig := 65
abbrev cc5_sem8_1 : DmaSem sig := 66
abbrev cc6_sem0_0 : DmaSem sig := 67
abbrev cc6_sem0_1 : DmaSem sig := 68
abbrev cc6_sem1_0 : DmaSem sig := 69
abbrev cc6_sem1_1 : DmaSem sig := 70
abbrev cc6_sem2_0 : DmaSem sig := 71
abbrev cc6_sem2_1 : DmaSem sig := 72
abbrev cc6_sem3_0 : DmaSem sig := 73
abbrev cc6_sem3_1 : DmaSem sig := 74
abbrev cc6_sem4_0 : DmaSem sig := 75
abbrev cc6_sem5_0 : DmaSem sig := 76
abbrev cc6_sem6_0 : DmaSem sig := 77
abbrev cc6_sem7_0 : DmaSem sig := 78
abbrev cc6_sem8_0 : DmaSem sig := 79
abbrev cc6_sem9_0 : DmaSem sig := 80
abbrev cc6_sem10_0 : DmaSem sig := 81
abbrev cc6_sem11_0 : DmaSem sig := 82
abbrev cc6_sem12_0 : DmaSem sig := 83
abbrev cc6_sem13_0 : DmaSem sig := 84
abbrev cc6_sem14_0 : DmaSem sig := 85
abbrev cc6_sem14_1 : DmaSem sig := 86

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S192x1536 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1536x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S192x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S2048x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x2048 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨2, ![8, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c8_i32 : BitVec 32 := 8#32
  let v2 : BitVec 32 := Scalar.addi c8_i32 arg0
  let c0_i32_0 : BitVec 32 := 0#32
  ![v1.toNat, v2.toNat]

def cc4_transform_2 (i : grid4.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c8_i32 : BitVec 32 := 8#32
  let v2 : BitVec 32 := Scalar.addi c8_i32 arg0
  let c0_i32_0 : BitVec 32 := 0#32
  ![v1.toNat, v2.toNat]

def cc4_transform_3 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc4_transform_4 (i : grid4.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c16_i32 : BitVec 32 := 16#32
  let v2 : BitVec 32 := Scalar.addi c16_i32 arg0
  let c0_i32_0 : BitVec 32 := 0#32
  ![v1.toNat, v2.toNat]

def cc4_transform_5 (i : grid4.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let v2 : BitVec 32 := Scalar.addi c16_i32 arg0
  let c0_i32_0 : BitVec 32 := 0#32
  ![v1.toNat, v2.toNat]

def cc4_transform_6 (i : grid4.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S256x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S256x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S256x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S256x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S256x128 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S256x128 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S256x128 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S256x128 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev grid5 : Pipeline.Grid := ⟨2, ![8, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_5 (i : grid5.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S512x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S192x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S192x128 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev stage5_4 : Fin 2 → Memref sig .tc .vmem S64x128 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev stage5_5 : Fin 2 → Memref sig .tc .vmem S64x128 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 2 → Memref sig .tc .vmem S512x128 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev stage5_8 : Fin 2 → Memref sig .tc .vmem S512x128 .bf16 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_14 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S256x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1024x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1024x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x1024 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1024x1024 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x1024 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1024x1024 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S1x1024 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S1024x1024 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 1 → Memref sig .tc .vmem S1x1024 .f32 := fun | 0 => Memref.whole cc6_stg13_0 | ⟨_ + 1, h⟩ => absurd h (Nat.not_lt.2 (Nat.le_add_left _ _))
abbrev sem6_13 : Fin 1 → DmaSem sig := fun | 0 => cc6_sem13_0 | ⟨_ + 1, h⟩ => absurd h (Nat.not_lt.2 (Nat.le_add_left _ _))
abbrev reads6_13 : Fin grid6.rank → Bool := ![false]

abbrev stage6_14 : Fin 2 → Memref sig .tc .vmem S256x1024 .f32 := fun | 0 => Memref.whole cc6_stg14_0 | 1 => Memref.whole cc6_stg14_1 | ⟨_ + 2, h⟩ => absurd h (Nat.not_lt.2 (Nat.le_add_left _ _))
abbrev sem6_14 : Fin 2 → DmaSem sig := fun | 0 => cc6_sem14_0 | 1 => cc6_sem14_1 | ⟨_ + 2, h⟩ => absurd h (Nat.not_lt.2 (Nat.le_add_left _ _))
abbrev reads6_14 : Fin grid6.rank → Bool := ![true]
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩
abbrev S1x2048x3072 : Shape := ⟨3, ![1, 2048, 3072]⟩
abbrev S1x1x3072 : Shape := ⟨3, ![1, 1, 3072]⟩
abbrev S1x2048x3x16x64 : Shape := ⟨5, ![1, 2048, 3, 16, 64]⟩
abbrev S1x2048x1x16x64 : Shape := ⟨5, ![1, 2048, 1, 16, 64]⟩
abbrev S1x2048x16x64 : Shape := ⟨4, ![1, 2048, 16, 64]⟩
abbrev S1x16x2048x64 : Shape := ⟨4, ![1, 16, 2048, 64]⟩
abbrev S1x16x2048x2048 : Shape := ⟨4, ![1, 16, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩
abbrev S1x1x1024 : Shape := ⟨3, ![1, 1, 1024]⟩
abbrev S1536 : Shape := ⟨1, ![1536]⟩
abbrev S1x1 : Shape := ⟨2, ![1, 1]⟩
abbrev S1x1536 : Shape := ⟨2, ![1, 1536]⟩
abbrev S1x1536x1 : Shape := ⟨3, ![1, 1536, 1]⟩
abbrev S1x1536x2 : Shape := ⟨3, ![1, 1536, 2]⟩
abbrev S1x1536x1024 : Shape := ⟨3, ![1, 1536, 1024]⟩
abbrev S1x192x8x1024 : Shape := ⟨4, ![1, 192, 8, 1024]⟩
abbrev S1x192x1024 : Shape := ⟨3, ![1, 192, 1024]⟩
abbrev S1x192x16x64 : Shape := ⟨4, ![1, 192, 16, 64]⟩
abbrev S1x16x192x64 : Shape := ⟨4, ![1, 16, 192, 64]⟩
abbrev S1x16x2048x192 : Shape := ⟨4, ![1, 16, 2048, 192]⟩
abbrev S1x1x2048x1 : Shape := ⟨4, ![1, 1, 2048, 1]⟩
abbrev S192 : Shape := ⟨1, ![192]⟩
abbrev S1x1x1x192 : Shape := ⟨4, ![1, 1, 1, 192]⟩
abbrev S1x1x2048x192 : Shape := ⟨4, ![1, 1, 2048, 192]⟩
abbrev S1x2048x1 : Shape := ⟨3, ![1, 2048, 1]⟩
abbrev S1x1x1 : Shape := ⟨3, ![1, 1, 1]⟩
abbrev S1x64 : Shape := ⟨2, ![1, 64]⟩
abbrev S1x64x1 : Shape := ⟨3, ![1, 64, 1]⟩
abbrev S1x64x2 : Shape := ⟨3, ![1, 64, 2]⟩
abbrev S1x64x1024 : Shape := ⟨3, ![1, 64, 1024]⟩
abbrev S1x64x16x64 : Shape := ⟨4, ![1, 64, 16, 64]⟩
abbrev S1x16x64x64 : Shape := ⟨4, ![1, 16, 64, 64]⟩
abbrev S1x1x1x64 : Shape := ⟨4, ![1, 1, 1, 64]⟩
abbrev S1x1x2048x64 : Shape := ⟨4, ![1, 1, 2048, 64]⟩

abbrev nBuf : Space → Nat
  | .hbm => 321
  | .vmem => 0
  | .smem => 0
  | _ => 0

abbrev hbmTy0_0 (i : Nat) : BufTy := match i % 128 with
  | 0 => ⟨S1x2048x1024, .f32⟩
  | 1 => ⟨S1024x3072, .f32⟩
  | 2 => ⟨S3072, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S1024x1024, .f32⟩
  | 12 => ⟨S1024, .f32⟩
  | 13 => ⟨S1024x1024, .f32⟩
  | 14 => ⟨S1024, .f32⟩
  | 15 => ⟨S1024x1, .f32⟩
  | 16 => ⟨S1, .f32⟩
  | 17 => ⟨S1024x1024, .f32⟩
  | 18 => ⟨S1024, .f32⟩
  | 19 => ⟨S1024x1024, .f32⟩
  | 20 => ⟨S1024, .f32⟩
  | 21 => ⟨S1024x1024, .f32⟩
  | 22 => ⟨S1024, .f32⟩
  | 23 => ⟨S1024x1024, .f32⟩
  | 24 => ⟨S1024, .f32⟩
  | 25 => ⟨S1024x1024, .f32⟩
  | 26 => ⟨S1024, .f32⟩
  | 27 => ⟨S_, .f32⟩
  | 28 => ⟨S_, .f32⟩
  | 29 => ⟨S_, .f32⟩
  | 30 => ⟨S_, .f32⟩
  | 31 => ⟨S1x2048x3072, .f32⟩
  | 32 => ⟨S1x1x3072, .f32⟩
  | 33 => ⟨S1x2048x3072, .f32⟩
  | 34 => ⟨S1x2048x3072, .f32⟩
  | 35 => ⟨S1x2048x3x16x64, .f32⟩
  | 36 => ⟨S1x2048x1x16x64, .f32⟩
  | 37 => ⟨S1x2048x16x64, .f32⟩
  | 38 => ⟨S1x16x2048x64, .f32⟩
  | 39 => ⟨S1x2048x1x16x64, .f32⟩
  | 40 => ⟨S1x2048x16x64, .f32⟩
  | 41 => ⟨S1x16x2048x64, .f32⟩
  | 42 => ⟨S1x2048x1x16x64, .f32⟩
  | 43 => ⟨S1x2048x16x64, .f32⟩
  | 44 => ⟨S1x16x2048x64, .f32⟩
  | 45 => ⟨S1x16x2048x2048, .f32⟩
  | 46 => ⟨S_, .f32⟩
  | 47 => ⟨S1x16x2048x2048, .f32⟩
  | 48 => ⟨S1x16x2048x2048, .f32⟩
  | 49 => ⟨S2048, .i32⟩
  | 50 => ⟨S2048x1, .i32⟩
  | 51 => ⟨S2048, .i32⟩
  | 52 => ⟨S1x2048, .i32⟩
  | 53 => ⟨S2048x2048, .i32⟩
  | 54 => ⟨S2048x2048, .i32⟩
  | 55 => ⟨S2048x2048, .i32⟩
  | 56 => ⟨S_, .i32⟩
  | 57 => ⟨S2048x2048, .i32⟩
  | 58 => ⟨S2048x2048, .i1⟩
  | 59 => ⟨S2048x2048, .i32⟩
  | 60 => ⟨S2048x2048, .i32⟩
  | 61 => ⟨S2048x2048, .i32⟩
  | 62 => ⟨S_, .i32⟩
  | 63 => ⟨S2048x2048, .i32⟩
  | 64 => ⟨S2048x2048, .i1⟩
  | 65 => ⟨S2048x2048, .i1⟩
  | 66 => ⟨S1x1x2048x2048, .i1⟩
  | 67 => ⟨S_, .f32⟩
  | 68 => ⟨S_, .f32⟩
  | 69 => ⟨S1x16x2048x2048, .i1⟩
  | 70 => ⟨S1x16x2048x2048, .f32⟩
  | 71 => ⟨S1x16x2048x2048, .f32⟩
  | 72 => ⟨S_, .f32⟩
  | 73 => ⟨S1x16x2048, .f32⟩
  | 74 => ⟨S_, .f32⟩
  | 75 => ⟨S1x16x2048, .f32⟩
  | 76 => ⟨S1x16x2048, .f32⟩
  | 77 => ⟨S1x16x2048x1, .f32⟩
  | 78 => ⟨S1x16x2048x2048, .f32⟩
  | 79 => ⟨S1x16x2048x2048, .f32⟩
  | 80 => ⟨S1x16x2048x2048, .f32⟩
  | 81 => ⟨S_, .f32⟩
  | 82 => ⟨S1x16x2048, .f32⟩
  | 83 => ⟨S1x16x2048x1, .f32⟩
  | 84 => ⟨S1x16x2048x2048, .f32⟩
  | 85 => ⟨S1x16x2048x2048, .f32⟩
  | 86 => ⟨S1x16x2048x64, .f32⟩
  | 87 => ⟨S1x2048x16x64, .f32⟩
  | 88 => ⟨S1x2048x1024, .f32⟩
  | 89 => ⟨S1x2048x1024, .f32⟩
  | 90 => ⟨S1x1x1024, .f32⟩
  | 91 => ⟨S1x2048x1024, .f32⟩
  | 92 => ⟨S1x2048x1024, .f32⟩
  | 93 => ⟨S1536, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S1536, .i32⟩
  | 101 => ⟨S1536, .i32⟩
  | 102 => ⟨S_, .i32⟩
  | 103 => ⟨S1536, .i32⟩
  | 104 => ⟨S1536, .i1⟩
  | 105 => ⟨S_, .i32⟩
  | 106 => ⟨S1536, .i32⟩
  | 107 => ⟨S1536, .i1⟩
  | 108 => ⟨S_, .i32⟩
  | 109 => ⟨S_, .i1⟩
  | 110 => ⟨S1536, .i1⟩
  | 111 => ⟨S1536, .i1⟩
  | 112 => ⟨S1536, .i1⟩
  | 113 => ⟨S1536, .i32⟩
  | 114 => ⟨S1536, .i32⟩
  | 115 => ⟨S1536, .i32⟩
  | 116 => ⟨S1, .i32⟩
  | 117 => ⟨S1x1, .i32⟩
  | 118 => ⟨S1x1536, .i32⟩
  | 119 => ⟨S_, .i32⟩
  | 120 => ⟨S1x1, .i32⟩
  | 121 => ⟨S1x1, .i1⟩
  | 122 => ⟨S_, .i32⟩
  | 123 => ⟨S1x1, .i32⟩
  | 124 => ⟨S1x1, .i32⟩
  | 125 => ⟨S1x1, .i32⟩
  | 126 => ⟨S_, .i32⟩
  | 127 => ⟨S1x1536, .i32⟩
  | _ => ⟨S1x2048x1024, .f32⟩

abbrev hbmTy0_1 (i : Nat) : BufTy := match i % 128 with
  | 0 => ⟨S1x1536, .i1⟩
  | 1 => ⟨S_, .i32⟩
  | 2 => ⟨S1x1536, .i32⟩
  | 3 => ⟨S1x1536, .i32⟩
  | 4 => ⟨S1x1536, .i32⟩
  | 5 => ⟨S1x1536, .i32⟩
  | 6 => ⟨S1x1536x1, .i32⟩
  | 7 => ⟨S1x1536x1, .i32⟩
  | 8 => ⟨S1x1536x2, .i32⟩
  | 9 => ⟨S1x1536x1024, .f32⟩
  | 10 => ⟨S1x192x8x1024, .f32⟩
  | 11 => ⟨S_, .f32⟩
  | 12 => ⟨S1x192x1024, .f32⟩
  | 13 => ⟨S_, .f32⟩
  | 14 => ⟨S1x192x1024, .f32⟩
  | 15 => ⟨S1x192x1024, .f32⟩
  | 16 => ⟨S1x2048x1024, .f32⟩
  | 17 => ⟨S1x1x1024, .f32⟩
  | 18 => ⟨S1x2048x1024, .f32⟩
  | 19 => ⟨S1x2048x1024, .f32⟩
  | 20 => ⟨S1x2048x16x64, .f32⟩
  | 21 => ⟨S1x16x2048x64, .f32⟩
  | 22 => ⟨S1x192x1024, .f32⟩
  | 23 => ⟨S1x1x1024, .f32⟩
  | 24 => ⟨S1x192x1024, .f32⟩
  | 25 => ⟨S1x192x1024, .f32⟩
  | 26 => ⟨S1x192x16x64, .f32⟩
  | 27 => ⟨S1x16x192x64, .f32⟩
  | 28 => ⟨S1x192x1024, .f32⟩
  | 29 => ⟨S1x1x1024, .f32⟩
  | 30 => ⟨S1x192x1024, .f32⟩
  | 31 => ⟨S1x192x1024, .f32⟩
  | 32 => ⟨S1x192x16x64, .f32⟩
  | 33 => ⟨S1x16x192x64, .f32⟩
  | 34 => ⟨S1x16x2048x192, .f32⟩
  | 35 => ⟨S_, .f32⟩
  | 36 => ⟨S1x16x2048x192, .f32⟩
  | 37 => ⟨S1x16x2048x192, .f32⟩
  | 38 => ⟨S2048, .i32⟩
  | 39 => ⟨S1x1x2048x1, .i32⟩
  | 40 => ⟨S192, .i32⟩
  | 41 => ⟨S_, .i32⟩
  | 42 => ⟨S192, .i32⟩
  | 43 => ⟨S192, .i32⟩
  | 44 => ⟨S_, .i32⟩
  | 45 => ⟨S192, .i32⟩
  | 46 => ⟨S192, .i32⟩
  | 47 => ⟨S1x1x1x192, .i32⟩
  | 48 => ⟨S1x1x2048x192, .i32⟩
  | 49 => ⟨S1x1x2048x192, .i32⟩
  | 50 => ⟨S1x1x2048x192, .i1⟩
  | 51 => ⟨S_, .f32⟩
  | 52 => ⟨S_, .f32⟩
  | 53 => ⟨S1x16x2048x192, .i1⟩
  | 54 => ⟨S1x16x2048x192, .f32⟩
  | 55 => ⟨S1x16x2048x192, .f32⟩
  | 56 => ⟨S_, .f32⟩
  | 57 => ⟨S1x16x2048, .f32⟩
  | 58 => ⟨S_, .f32⟩
  | 59 => ⟨S1x16x2048, .f32⟩
  | 60 => ⟨S1x16x2048, .f32⟩
  | 61 => ⟨S1x16x2048x1, .f32⟩
  | 62 => ⟨S1x16x2048x192, .f32⟩
  | 63 => ⟨S1x16x2048x192, .f32⟩
  | 64 => ⟨S1x16x2048x192, .f32⟩
  | 65 => ⟨S_, .f32⟩
  | 66 => ⟨S1x16x2048, .f32⟩
  | 67 => ⟨S1x16x2048x1, .f32⟩
  | 68 => ⟨S1x16x2048x192, .f32⟩
  | 69 => ⟨S1x16x2048x192, .f32⟩
  | 70 => ⟨S1x16x2048x64, .f32⟩
  | 71 => ⟨S1x2048x16x64, .f32⟩
  | 72 => ⟨S1x2048x1024, .f32⟩
  | 73 => ⟨S1x2048x1024, .f32⟩
  | 74 => ⟨S1x1x1024, .f32⟩
  | 75 => ⟨S1x2048x1024, .f32⟩
  | 76 => ⟨S1x2048x1024, .f32⟩
  | 77 => ⟨S1x2048x1024, .f32⟩
  | 78 => ⟨S1x1x1024, .f32⟩
  | 79 => ⟨S1x2048x1024, .f32⟩
  | 80 => ⟨S1x2048x1024, .f32⟩
  | 81 => ⟨S1x2048x1024, .f32⟩
  | 82 => ⟨S1x2048x1024, .f32⟩
  | 83 => ⟨S_, .f32⟩
  | 84 => ⟨S1x2048x1024, .f32⟩
  | 85 => ⟨S1x2048x1024, .f32⟩
  | 86 => ⟨S_, .f32⟩
  | 87 => ⟨S1x2048x1024, .f32⟩
  | 88 => ⟨S1x2048x1024, .f32⟩
  | 89 => ⟨S_, .f32⟩
  | 90 => ⟨S1x2048x1024, .f32⟩
  | 91 => ⟨S1x2048x1024, .f32⟩
  | 92 => ⟨S1x2048x1024, .f32⟩
  | 93 => ⟨S1x2048x1024, .f32⟩
  | 94 => ⟨S1x2048x1, .f32⟩
  | 95 => ⟨S1x1x1, .f32⟩
  | 96 => ⟨S1x2048x1, .f32⟩
  | 97 => ⟨S1x2048x1, .f32⟩
  | 98 => ⟨S1x2048, .f32⟩
  | 99 => ⟨S1x64, .f32⟩
  | 100 => ⟨S1x64, .i32⟩
  | 101 => ⟨S1, .i32⟩
  | 102 => ⟨S1x1, .i32⟩
  | 103 => ⟨S_, .i32⟩
  | 104 => ⟨S1x1, .i32⟩
  | 105 => ⟨S1x1, .i1⟩
  | 106 => ⟨S_, .i32⟩
  | 107 => ⟨S1x1, .i32⟩
  | 108 => ⟨S1x1, .i32⟩
  | 109 => ⟨S1x1, .i32⟩
  | 110 => ⟨S_, .i32⟩
  | 111 => ⟨S1x64, .i32⟩
  | 112 => ⟨S1x64, .i1⟩
  | 113 => ⟨S_, .i32⟩
  | 114 => ⟨S1x64, .i32⟩
  | 115 => ⟨S1x64, .i32⟩
  | 116 => ⟨S1x64, .i32⟩
  | 117 => ⟨S1x64, .i32⟩
  | 118 => ⟨S1x64x1, .i32⟩
  | 119 => ⟨S1x64x1, .i32⟩
  | 120 => ⟨S1x64x2, .i32⟩
  | 121 => ⟨S1x64x1024, .f32⟩
  | 122 => ⟨S1x2048x1024, .f32⟩
  | 123 => ⟨S1x1x1024, .f32⟩
  | 124 => ⟨S1x2048x1024, .f32⟩
  | 125 => ⟨S1x2048x1024, .f32⟩
  | 126 => ⟨S1x2048x16x64, .f32⟩
  | 127 => ⟨S1x16x2048x64, .f32⟩
  | _ => ⟨S1x2048x1024, .f32⟩

abbrev hbmTy0_2 (i : Nat) : BufTy := match i % 128 with
  | 0 => ⟨S1x64x1024, .f32⟩
  | 1 => ⟨S1x1x1024, .f32⟩
  | 2 => ⟨S1x64x1024, .f32⟩
  | 3 => ⟨S1x64x1024, .f32⟩
  | 4 => ⟨S1x64x16x64, .f32⟩
  | 5 => ⟨S1x16x64x64, .f32⟩
  | 6 => ⟨S1x64x1024, .f32⟩
  | 7 => ⟨S1x1x1024, .f32⟩
  | 8 => ⟨S1x64x1024, .f32⟩
  | 9 => ⟨S1x64x1024, .f32⟩
  | 10 => ⟨S1x64x16x64, .f32⟩
  | 11 => ⟨S1x16x64x64, .f32⟩
  | 12 => ⟨S1x16x2048x64, .f32⟩
  | 13 => ⟨S_, .f32⟩
  | 14 => ⟨S1x16x2048x64, .f32⟩
  | 15 => ⟨S1x16x2048x64, .f32⟩
  | 16 => ⟨S1x1x1x64, .i32⟩
  | 17 => ⟨S2048, .i32⟩
  | 18 => ⟨S1x1x2048x1, .i32⟩
  | 19 => ⟨S1x1x2048x64, .i32⟩
  | 20 => ⟨S1x1x2048x64, .i32⟩
  | 21 => ⟨S1x1x2048x64, .i1⟩
  | 22 => ⟨S_, .f32⟩
  | 23 => ⟨S_, .f32⟩
  | 24 => ⟨S1x16x2048x64, .i1⟩
  | 25 => ⟨S1x16x2048x64, .f32⟩
  | 26 => ⟨S1x16x2048x64, .f32⟩
  | 27 => ⟨S_, .f32⟩
  | 28 => ⟨S1x16x2048, .f32⟩
  | 29 => ⟨S_, .f32⟩
  | 30 => ⟨S1x16x2048, .f32⟩
  | 31 => ⟨S1x16x2048, .f32⟩
  | 32 => ⟨S1x16x2048x1, .f32⟩
  | 33 => ⟨S1x16x2048x64, .f32⟩
  | 34 => ⟨S1x16x2048x64, .f32⟩
  | 35 => ⟨S1x16x2048x64, .f32⟩
  | 36 => ⟨S_, .f32⟩
  | 37 => ⟨S1x16x2048, .f32⟩
  | 38 => ⟨S1x16x2048x1, .f32⟩
  | 39 => ⟨S1x16x2048x64, .f32⟩
  | 40 => ⟨S1x16x2048x64, .f32⟩
  | 41 => ⟨S1x16x2048x64, .f32⟩
  | 42 => ⟨S1x2048x16x64, .f32⟩
  | 43 => ⟨S1x2048x1024, .f32⟩
  | 44 => ⟨S1x2048x1024, .f32⟩
  | 45 => ⟨S1x1x1024, .f32⟩
  | 46 => ⟨S1x2048x1024, .f32⟩
  | 47 => ⟨S1x2048x1024, .f32⟩
  | 48 => ⟨S1x2048x1024, .f32⟩
  | 49 => ⟨S1x1x1024, .f32⟩
  | 50 => ⟨S1x2048x1024, .f32⟩
  | 51 => ⟨S1x2048x1024, .f32⟩
  | 52 => ⟨S1x2048x1024, .f32⟩
  | 53 => ⟨S1x2048x1024, .f32⟩
  | 54 => ⟨S_, .f32⟩
  | 55 => ⟨S1x2048x1024, .f32⟩
  | 56 => ⟨S1x2048x1024, .f32⟩
  | 57 => ⟨S_, .f32⟩
  | 58 => ⟨S1x2048x1024, .f32⟩
  | 59 => ⟨S1x2048x1024, .f32⟩
  | 60 => ⟨S_, .f32⟩
  | 61 => ⟨S1x2048x1024, .f32⟩
  | 62 => ⟨S1x2048x1024, .f32⟩
  | 63 => ⟨S1x2048x1024, .f32⟩
  | 64 => ⟨S1x2048x1024, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_cst : Ref sig .tc := ⟨.hbm, 27, rfl⟩
abbrev main_v0 : Ref sig .tc := ⟨.hbm, 28, rfl⟩
abbrev main_cst_0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_1 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_2 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v36 : Ref sig .tc := ⟨.hbm, 71, rfl⟩
abbrev main_cst_3 : Ref sig .tc := ⟨.hbm, 72, rfl⟩
abbrev main_v37 : Ref sig .tc := ⟨.hbm, 73, rfl⟩
abbrev main_cst_4 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_5 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_c_6 : Ref sig .tc := ⟨.hbm, 94, rfl⟩
abbrev main_call1_v0 : Ref sig .tc := ⟨.hbm, 95, rfl⟩
abbrev main_call1_c : Ref sig .tc := ⟨.hbm, 96, rfl⟩
abbrev main_call1_v1 : Ref sig .tc := ⟨.hbm, 97, rfl⟩
abbrev main_call1_c_0 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_c_1 : Ref sig .tc := ⟨.hbm, 102, rfl⟩
abbrev main_call1_v5 : Ref sig .tc := ⟨.hbm, 103, rfl⟩
abbrev main_call1_v6 : Ref sig .tc := ⟨.hbm, 104, rfl⟩
abbrev main_call1_c_2 : Ref sig .tc := ⟨.hbm, 105, rfl⟩
abbrev main_call1_v7 : Ref sig .tc := ⟨.hbm, 106, rfl⟩
abbrev main_call1_v8 : Ref sig .tc := ⟨.hbm, 107, rfl⟩
abbrev main_call1_c_3 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_call1_v12 : Ref sig .tc := ⟨.hbm, 112, rfl⟩
abbrev main_call1_v13 : Ref sig .tc := ⟨.hbm, 113, rfl⟩
abbrev main_call1_v14 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_c_7 : Ref sig .tc := ⟨.hbm, 119, rfl⟩
abbrev main_v60 : Ref sig .tc := ⟨.hbm, 120, rfl⟩
abbrev main_v61 : Ref sig .tc := ⟨.hbm, 121, rfl⟩
abbrev main_c_8 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_c_9 : Ref sig .tc := ⟨.hbm, 126, rfl⟩
abbrev main_v65 : Ref sig .tc := ⟨.hbm, 127, rfl⟩
abbrev main_v66 : Ref sig .tc := ⟨.hbm, 128, rfl⟩
abbrev main_c_10 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_cst_11 : Ref sig .tc := ⟨.hbm, 139, rfl⟩
abbrev main_v76 : Ref sig .tc := ⟨.hbm, 140, rfl⟩
abbrev main_cst_12 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_c_13 : Ref sig .tc := ⟨.hbm, 169, rfl⟩
abbrev main_v104 : Ref sig .tc := ⟨.hbm, 170, rfl⟩
abbrev main_v105 : Ref sig .tc := ⟨.hbm, 171, rfl⟩
abbrev main_c_14 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_cst_15 : Ref sig .tc := ⟨.hbm, 179, rfl⟩
abbrev main_call2_v0 : Ref sig .tc := ⟨.hbm, 180, rfl⟩
abbrev main_call2_v1 : Ref sig .tc := ⟨.hbm, 181, rfl⟩
abbrev main_call2_v2 : Ref sig .tc := ⟨.hbm, 182, rfl⟩
abbrev main_v112 : Ref sig .tc := ⟨.hbm, 183, rfl⟩
abbrev main_cst_16 : Ref sig .tc := ⟨.hbm, 184, rfl⟩
abbrev main_v113 : Ref sig .tc := ⟨.hbm, 185, rfl⟩
abbrev main_cst_17 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_cst_18 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_cst_19 : Ref sig .tc := ⟨.hbm, 211, rfl⟩
abbrev main_v137 : Ref sig .tc := ⟨.hbm, 212, rfl⟩
abbrev main_v138 : Ref sig .tc := ⟨.hbm, 213, rfl⟩
abbrev main_cst_20 : Ref sig .tc := ⟨.hbm, 214, rfl⟩
abbrev main_v139 : Ref sig .tc := ⟨.hbm, 215, rfl⟩
abbrev main_v140 : Ref sig .tc := ⟨.hbm, 216, rfl⟩
abbrev main_cst_21 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_values : Ref sig .tc := ⟨.hbm, 227, rfl⟩
abbrev main_indices : Ref sig .tc := ⟨.hbm, 228, rfl⟩
abbrev main_v150 : Ref sig .tc := ⟨.hbm, 229, rfl⟩
abbrev main_v151 : Ref sig .tc := ⟨.hbm, 230, rfl⟩
abbrev main_c_22 : Ref sig .tc := ⟨.hbm, 231, rfl⟩
abbrev main_v152 : Ref sig .tc := ⟨.hbm, 232, rfl⟩
abbrev main_v153 : Ref sig .tc := ⟨.hbm, 233, rfl⟩
abbrev main_c_23 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_c_24 : Ref sig .tc := ⟨.hbm, 238, rfl⟩
abbrev main_v157 : Ref sig .tc := ⟨.hbm, 239, rfl⟩
abbrev main_v158 : Ref sig .tc := ⟨.hbm, 240, rfl⟩
abbrev main_c_25 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_v194 : Ref sig .tc := ⟨.hbm, 277, rfl⟩
abbrev main_cst_26 : Ref sig .tc := ⟨.hbm, 278, rfl⟩
abbrev main_call3_v0 : Ref sig .tc := ⟨.hbm, 279, rfl⟩
abbrev main_call3_v1 : Ref sig .tc := ⟨.hbm, 280, rfl⟩
abbrev main_call3_v2 : Ref sig .tc := ⟨.hbm, 281, rfl⟩
abbrev main_v195 : Ref sig .tc := ⟨.hbm, 282, rfl⟩
abbrev main_cst_27 : Ref sig .tc := ⟨.hbm, 283, rfl⟩
abbrev main_v196 : Ref sig .tc := ⟨.hbm, 284, rfl⟩
abbrev main_cst_28 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_cst_29 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_cst_30 : Ref sig .tc := ⟨.hbm, 310, rfl⟩
abbrev main_v220 : Ref sig .tc := ⟨.hbm, 311, rfl⟩
abbrev main_v221 : Ref sig .tc := ⟨.hbm, 312, rfl⟩
abbrev main_cst_31 : Ref sig .tc := ⟨.hbm, 313, rfl⟩
abbrev main_v222 : Ref sig .tc := ⟨.hbm, 314, rfl⟩
abbrev main_v223 : Ref sig .tc := ⟨.hbm, 315, rfl⟩
abbrev main_cst_32 : Ref sig .tc := ⟨.hbm, 316, rfl⟩
abbrev main_v224 : Ref sig .tc := ⟨.hbm, 317, rfl⟩
abbrev main_v225 : Ref sig .tc := ⟨.hbm, 318, rfl⟩
abbrev main_v226 : Ref sig .tc := ⟨.hbm, 319, rfl⟩
abbrev main_v227 : Ref sig .tc := ⟨.hbm, 320, rfl⟩

abbrev nD : Nat := 1
abbrev τ : Topo := Topo.v7x

variable {F : FTy → Type} [FloatOps F]
-- ==== Proof.Frames.lean ====
/- The frames of the three programs, and the statement about the constant that stands for −∞. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel at machine floats leaves its arguments and every semaphore as they were. -/
theorem frame_kernel : Cert.quiescent_Kernel (hKernel := Cert.Kernel.Gen.facts) :=
  fun m ρ _ => Cert.Kernel.Gen.frame m ρ

/-- The kernel at ideal floats leaves its arguments and every semaphore as they were. -/
theorem frame_kernelIdeal : Cert.quiescent_KernelIdeal (hKernelIdeal := Cert.KernelIdeal.Gen.facts) :=
  fun m ρ _ => Cert.KernelIdeal.Gen.frame m ρ

/-- The reference at ideal floats leaves its arguments unchanged; it has no semaphore. -/
theorem frame_referenceIdeal : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The one named constant is −∞ in the table of the idealized kernel. -/
theorem preserves_mask : Cert.preserves_Kernel_KernelIdeal :=
  IdealRules.named_const.statement Cert.KernelIdeal.κ "mask" .f32 0xCE6E6B29#32 (⊥ : EReal) rfl

end Cert.Proof

end
-- ==== Proof.Finite.lean ====
/- What the precondition says: every entry of every argument is a real number. -/
module

public import proofs.«01_k».proof.Defs
public import Idealize.ShloMosaic.Lib.Pointwise

@[expose] public section

noncomputable section

namespace Cert.Proof

open Idealize.ShloMosaic

/-- The side conditions of the precondition's own operations. -/
theorem preFacts : Cert.Pre_finite.Facts where
  bcast_S_S1024x1024 := by decide
  bcast_S_S1024 := by decide
  bcast_S_S1x2048x1024 := by decide
  bcast_S_S1024x3072 := by decide
  bcast_S_S3072 := by decide
  bcast_S_S1024x1 := by decide
  bcast_S_S1 := by decide

/-- Every entry of the array is a real number. -/
def AllReal {ι : Type} (a : ι → EReal) : Prop := ∃ r : ι → ℝ, a = fun i => (r i : EReal)

theorem real_of_abs_lt (x : EReal) (h : Ideal.cmp .olt (max x (-x)) (Ideal.ofBits .f32 0x7F800000#32) = 1#1) :
    ∃ r : ℝ, x = r := by
  have ht : Ideal.ofBits .f32 0x7F800000#32 = ⊤ := by simp [Ideal.ofBits, Ideal.ieee]
  rw [ht] at h
  induction x using EReal.rec with
  | coe r => exact ⟨r, rfl⟩
  | bot => simp [Ideal.cmp] at h
  | top => simp [Ideal.cmp] at h

theorem and_one {a b : BitVec 1} (h : a &&& b = 1#1) : a = 1#1 ∧ b = 1#1 := by
  revert a b; decide

theorem allReal_of {s : Shape} (h0 : Shape.BroadcastsInDim ⟨0, ![]⟩ s ![]) (a : FVec Ideal s .f32)
    (h : ∀ i, cmpf .olt (Host.absf a) (broadcastInDim s ![] h0 (constant (F := Ideal) ⟨0, ![]⟩ .f32 0x7F800000#32)) i = 1#1) :
    AllReal a := by
  choose r hr using fun i => real_of_abs_lt (a i) (h i)
  exact ⟨r, funext hr⟩

section
variable [hP : Cert.Pre_finite.Facts]
open Cert.Pre_finite

/-- The seven results of the precondition, each all ones, say that all twenty-seven arguments have real entries. -/
theorem args_real (a0 : FVec Ideal S1x2048x1024 .f32) (a1 : FVec Ideal S1024x3072 .f32) (a2 : FVec Ideal S3072 .f32)
    (a3 : FVec Ideal S1024x1024 .f32) (a4 : FVec Ideal S1024 .f32) (a5 : FVec Ideal S1024x1024 .f32) (a6 : FVec Ideal S1024 .f32)
    (a7 : FVec Ideal S1024x1024 .f32) (a8 : FVec Ideal S1024 .f32) (a9 : FVec Ideal S1024x1024 .f32) (a10 : FVec Ideal S1024 .f32)
    (a11 : FVec Ideal S1024x1024 .f32) (a12 : FVec Ideal S1024 .f32) (a13 : FVec Ideal S1024x1024 .f32) (a14 : FVec Ideal S1024 .f32)
    (a15 : FVec Ideal S1024x1 .f32) (a16 : FVec Ideal S1 .f32)
    (a17 : FVec Ideal S1024x1024 .f32) (a18 : FVec Ideal S1024 .f32) (a19 : FVec Ideal S1024x1024 .f32) (a20 : FVec Ideal S1024 .f32)
    (a21 : FVec Ideal S1024x1024 .f32) (a22 : FVec Ideal S1024 .f32) (a23 : FVec Ideal S1024x1024 .f32) (a24 : FVec Ideal S1024 .f32)
    (a25 : FVec Ideal S1024x1024 .f32) (a26 : FVec Ideal S1024 .f32)
    (h : let p := Cert.Pre_finite.fn (F := Ideal) a0 a1 a2 a3 a4 a5 a6 a7 a8 a9 a10 a11 a12 a13 a14 a15 a16 a17 a18 a19 a20 a21 a22 a23 a24 a25 a26
      p.1 = (fun _ => 1#1) ∧ p.2.1 = (fun _ => 1#1) ∧ p.2.2.1 = (fun _ => 1#1) ∧ p.2.2.2.1 = (fun _ => 1#1) ∧ p.2.2.2.2.1 = (fun _ => 1#1)
        ∧ p.2.2.2.2.2.1 = (fun _ => 1#1) ∧ p.2.2.2.2.2.2 = (fun _ => 1#1)) :
    (AllReal a0 ∧ AllReal a1 ∧ AllReal a2 ∧ AllReal a15 ∧ AllReal a16)
    ∧ (AllReal a3 ∧ AllReal a5 ∧ AllReal a7 ∧ AllReal a9 ∧ AllReal a11 ∧ AllReal a13 ∧ AllReal a17 ∧ AllReal a19 ∧ AllReal a21 ∧ AllReal a23 ∧ AllReal a25)
    ∧ (AllReal a4 ∧ AllReal a6 ∧ AllReal a8 ∧ AllReal a10 ∧ AllReal a12 ∧ AllReal a14 ∧ AllReal a18 ∧ AllReal a20 ∧ AllReal a22 ∧ AllReal a24 ∧ AllReal a26) := by
  obtain ⟨h0, h1, h2, h15, h16, hm, hv⟩ := h
  have hm' := fun i => and_one (congrFun hm i)
  have hm1 := fun i => and_one (hm' i).1
  have hm2 := fun i => and_one (hm1 i).1
  have hm3 := fun i => and_one (hm2 i).1
  have hm4 := fun i => and_one (hm3 i).1
  have hm5 := fun i => and_one (hm4 i).1
  have hm6 := fun i => and_one (hm5 i).1
  have hm7 := fun i => and_one (hm6 i).1
  have hm8 := fun i => and_one (hm7 i).1
  have hm9 := fun i => and_one (hm8 i).1
  have hv' := fun i => and_one (congrFun hv i)
  have hv1 := fun i => and_one (hv' i).1
  have hv2 := fun i => and_one (hv1 i).1
  have hv3 := fun i => and_one (hv2 i).1
  have hv4 := fun i => and_one (hv3 i).1
  have hv5 := fun i => and_one (hv4 i).1
  have hv6 := fun i => and_one (hv5 i).1
  have hv7 := fun i => and_one (hv6 i).1
  have hv8 := fun i => and_one (hv7 i).1
  have hv9 := fun i => and_one (hv8 i).1
  have b2 := Cert.Pre_finite.Facts.bcast_S_S1024x1024
  have b1 := Cert.Pre_finite.Facts.bcast_S_S1024
  exact ⟨⟨allReal_of Facts.bcast_S_S1x2048x1024 a0 (congrFun h0), allReal_of Facts.bcast_S_S1024x3072 a1 (congrFun h1),
      allReal_of Facts.bcast_S_S3072 a2 (congrFun h2), allReal_of Facts.bcast_S_S1024x1 a15 (congrFun h15), allReal_of Facts.bcast_S_S1 a16 (congrFun h16)⟩,
    ⟨allReal_of b2 a3 fun i => (hm9 i).1, allReal_of b2 a5 fun i => (hm9 i).2, allReal_of b2 a7 fun i => (hm8 i).2,
      allReal_of b2 a9 fun i => (hm7 i).2, allReal_of b2 a11 fun i => (hm6 i).2, allReal_of b2 a13 fun i => (hm5 i).2,
      allReal_of b2 a17 fun i => (hm4 i).2, allReal_of b2 a19 fun i => (hm3 i).2, allReal_of b2 a21 fun i => (hm2 i).2,
      allReal_of b2 a23 fun i => (hm1 i).2, allReal_of b2 a25 fun i => (hm' i).2⟩,
    ⟨allReal_of b1 a4 fun i => (hv9 i).1, allReal_of b1 a6 fun i => (hv9 i).2, allReal_of b1 a8 fun i => (hv8 i).2,
      allReal_of b1 a10 fun i => (hv7 i).2, allReal_of b1 a12 fun i => (hv6 i).2, allReal_of b1 a14 fun i => (hv5 i).2,
      allReal_of b1 a18 fun i => (hv4 i).2, allReal_of b1 a20 fun i => (hv3 i).2, allReal_of b1 a22 fun i => (hv2 i).2,
      allReal_of b1 a24 fun i => (hv1 i).2, allReal_of b1 a26 fun i => (hv' i).2⟩⟩
end

end Cert.Proof

end
-- ==== Proof.Att.lean ====
/- One query row's attention in the form the kernel computes it. -/
module

public import Idealize.ShloMosaic.Lib.Pipeline.ValueKit
public import Idealize.ShloMosaic.Lib.Pointwise

@[expose] public section

noncomputable section

namespace Cert.Att

open Idealize.ShloMosaic

theorem ix2_eq {n m : ℕ} {a a' : Fin n} {b b' : Fin m} (h : a.val = a'.val) (h' : b.val = b'.val) : ix2 a b = ix2 a' b' := by
  rw [Fin.ext h, Fin.ext h']

/-- The scaled score of a query row against a key row. -/
def score (q k : Fin 64 → EReal) : EReal := ∑ x, q x * Ideal.ofBits .bf16 0x3E00#16 * k x

/-- A query row's attention over three blocks of keys, each with a bias added to its scores, no maximum subtracted. -/
def rowAtt (b2 b1 b0 : Fin 256 → EReal) (q : Fin 64 → EReal) (k2 k1 k0 : Fin 256 → Fin 64 → EReal) (w2 w1 w0 : Fin 256 → EReal) : EReal :=
  Ideal.div (∑ s, Ideal.exp (score q (k2 s) + b2 s) * w2 s + ∑ s, Ideal.exp (score q (k1 s) + b1 s) * w1 s
      + ∑ s, Ideal.exp (score q (k0 s) + b0 s) * w0 s)
    (∑ s, Ideal.exp (score q (k2 s) + b2 s) + ∑ s, Ideal.exp (score q (k1 s) + b1 s) + ∑ s, Ideal.exp (score q (k0 s) + b0 s))

theorem rowAtt_congr {b2 b1 b0 b2' b1' b0' : Fin 256 → EReal} {q q' : Fin 64 → EReal} {k2 k1 k0 k2' k1' k0' : Fin 256 → Fin 64 → EReal}
    {w2 w1 w0 w2' w1' w0' : Fin 256 → EReal} (hb2 : ∀ s, b2 s = b2' s) (hb1 : ∀ s, b1 s = b1' s) (hb0 : ∀ s, b0 s = b0' s)
    (hq : ∀ x, q x = q' x) (hk2 : ∀ s x, k2 s x = k2' s x) (hk1 : ∀ s x, k1 s x = k1' s x) (hk0 : ∀ s x, k0 s x = k0' s x)
    (hw2 : ∀ s, w2 s = w2' s) (hw1 : ∀ s, w1 s = w1' s) (hw0 : ∀ s, w0 s = w0' s) :
    rowAtt b2 b1 b0 q k2 k1 k0 w2 w1 w0 = rowAtt b2' b1' b0' q' k2' k1' k0' w2' w1' w0' := by
  rw [funext hb2, funext hb1, funext hb0, funext hq, funext fun s => funext (hk2 s), funext fun s => funext (hk1 s),
    funext fun s => funext (hk0 s), funext hw2, funext hw1, funext hw0]

/-- A query row's softmax attention over `n` keys: a key outside the mask has the score −10⁹, and the greatest score is subtracted. -/
def maxAtt {n : ℕ} (m : Fin n → Prop) [DecidablePred m] (q : Fin 64 → EReal) (k : Fin n → Fin 64 → EReal) (w : Fin n → EReal) : EReal :=
  let s (j : Fin n) : EReal := if m j then score q (k j) else Ideal.ofBits .f32 0xCE6E6B28#32
  let M : EReal := Finset.univ.fold max (Ideal.ofBits .f32 0xFF800000#32) s
  Ideal.div (∑ j, Ideal.exp (s j - M) * w j) (∑ j, Ideal.exp (s j - M))

theorem maxAtt_congr {n : ℕ} {m m' : Fin n → Prop} {i1 : DecidablePred m} {i2 : DecidablePred m'} {q q' : Fin 64 → EReal} {k k' : Fin n → Fin 64 → EReal}
    {w w' : Fin n → EReal} (hm : ∀ j, m j ↔ m' j) (hq : ∀ x, q x = q' x) (hk : ∀ j x, k j x = k' j x) (hw : ∀ j, w j = w' j) :
    @maxAtt n m i1 q k w = @maxAtt n m' i2 q' k' w' := by
  obtain rfl : m = m' := funext fun j => propext (hm j)
  rw [funext hq, funext fun j => funext (hk j), funext hw]
  obtain rfl : i1 = i2 := Subsingleton.elim _ _
  rfl

end Cert.Att
-- ==== Proof.Reals.lean ====
/- Facts of real sums, exponentials and quotients among the extended reals. -/
module

public import Idealize.ShloMosaic.Lib.Pipeline.ValueKit
public import Idealize.ShloMosaic.Lib.Pointwise

@[expose] public section

noncomputable section

namespace Cert.Reals

open Idealize.ShloMosaic

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of products of reals. -/
theorem coe_dot {ι : Type} (s : Finset ι) (f g : ι → ℝ) : ∑ i ∈ s, (f i : EReal) * (g i : EReal) = ((∑ i ∈ s, f i * g i : ℝ) : EReal) := by
  rw [← coe_sum]
  exact Finset.sum_congr rfl fun i _ => (EReal.coe_mul _ _).symm

theorem exp_coe (r : ℝ) : Ideal.exp (r : EReal) = ((Real.exp r : ℝ) : EReal) := rfl

theorem div_real {y : ℝ} (h : y ≠ 0) (x : ℝ) : Ideal.div (x : EReal) (y : EReal) = ((x / y : ℝ) : EReal) := by
  rw [Ideal.div_coe h, ← EReal.coe_mul, mul_one_div]

/-- The average of `v` with weights `w`. -/
def wavg {n : ℕ} (w v : Fin n → ℝ) : ℝ := (∑ j, w j * v j) / ∑ j, w j

theorem wavg_scale {n : ℕ} (κ : ℝ) (hκ : κ ≠ 0) (w v : Fin n → ℝ) : wavg (fun j => κ * w j) v = wavg w v := by
  unfold wavg
  rw [← Finset.mul_sum, show ∑ j, κ * w j * v j = κ * ∑ j, w j * v j by rw [Finset.mul_sum]; exact Finset.sum_congr rfl fun j _ => mul_assoc _ _ _,
    mul_div_mul_left _ _ hκ]

/-- Weighted values summed, then divided by the sum of the weights. -/
theorem div_form {n : ℕ} (w v : Fin n → ℝ) (h : ∑ j, w j ≠ 0) :
    Ideal.div (∑ j, (w j : EReal) * (v j : EReal)) (∑ j, (w j : EReal)) = ((wavg w v : ℝ) : EReal) := by
  rw [coe_dot, coe_sum, div_real h, wavg]

/-- Weights divided by their sum, then the weighted values summed. -/
theorem ref_form {n : ℕ} (w v : Fin n → ℝ) (h : ∑ j, w j ≠ 0) :
    ∑ j, Ideal.div (w j : EReal) (∑ j, (w j : EReal)) * (v j : EReal) = ((wavg w v : ℝ) : EReal) := by
  rw [coe_sum]
  simp only [div_real h]
  rw [coe_dot, wavg, Finset.sum_div]
  congr 1
  exact Finset.sum_congr rfl fun j _ => by ring

/-- The greatest of finitely many scores, none of them infinite above and one of them real, is real. -/
theorem fold_max_real {n : ℕ} (f : Fin n → EReal) (hT : ∀ j, f j < ⊤) (hB : ∃ j, ⊥ < f j) :
    ∃ M : ℝ, Finset.univ.fold max (⊥ : EReal) f = (M : EReal) := by
  have h1 : Finset.univ.fold max (⊥ : EReal) f < ⊤ := (Finset.fold_max_lt _).2 ⟨bot_lt_top, fun j _ => hT j⟩
  have h2 : ⊥ < Finset.univ.fold max (⊥ : EReal) f := by
    obtain ⟨j, hj⟩ := hB
    exact (Finset.lt_fold_max _).2 (Or.inr ⟨j, Finset.mem_univ j, hj⟩)
  exact ⟨_, (EReal.coe_toReal h1.ne h2.ne').symm⟩

theorem bits_neg_inf : Ideal.ofBits .f32 0xFF800000#32 = (⊥ : EReal) := by
  simp [Ideal.ofBits, Ideal.ieee]

theorem bits_eighth : Ideal.ofBits .bf16 0x3E00#16 = ((1 / 8 : ℝ) : EReal) := by
  simp [Ideal.ofBits, Ideal.ieee, -EReal.coe_mul]; norm_num

theorem bits_eighth_f32 : Ideal.ofBits .f32 0x3E000000#32 = ((1 / 8 : ℝ) : EReal) := by
  simp [Ideal.ofBits, Ideal.ieee, -EReal.coe_mul]; norm_num

theorem bits_fill : Ideal.ofBits .f32 0xCE6E6B28#32 = ((-1000000000 : ℝ) : EReal) := by
  simp [Ideal.ofBits, Ideal.ieee, -EReal.coe_mul]; norm_num

end Cert.Reals
-- ==== Proof.Order.lean ====
/- The order of the importances: greater first, equal ones by position; an element's rank is its place in the stable sort. -/
module

public import Idealize.ShloMosaic.Lib.SortFacts
public import Mathlib.Data.Real.Basic
public import Mathlib.Algebra.BigOperators.Group.Finset.Basic

@[expose] public section

noncomputable section

namespace Cert.Order

open Idealize.ShloMosaic

variable {n : ℕ} (y : Fin n → ℝ)

/-- Element `a` comes before element `b`: it is greater, or equal and earlier. -/
def Lex (a b : Fin n) : Prop := y b < y a ∨ (y a = y b ∧ a < b)

theorem Lex.trans {a b c : Fin n} (h : Lex y a b) (h' : Lex y b c) : Lex y a c := by
  rcases h with h | ⟨h, l⟩ <;> rcases h' with h' | ⟨h', l'⟩
  · exact Or.inl (h'.trans h)
  · exact Or.inl (h' ▸ h)
  · exact Or.inl (h ▸ h')
  · exact Or.inr ⟨h.trans h', l.trans l'⟩

theorem Lex.irrefl (a : Fin n) : ¬ Lex y a a := by
  rintro (h | ⟨-, h⟩)
  · exact lt_irrefl _ h
  · exact lt_irrefl _ h

/-- The comparison the sort is given: strictly greater. -/
def gt (a b : Fin n) : Bool := decide (y b < y a)

theorem insert_pairwise (a : Fin n) (m : List (Fin n)) (hm : m.Pairwise (Lex y)) (ha : ∀ b ∈ m, a < b) :
    (insertBefore (gt y) a m).Pairwise (Lex y) := by
  induction m with
  | nil => simp [insertBefore]
  | cons b m ih =>
    rw [List.pairwise_cons] at hm
    unfold insertBefore
    split_ifs with h
    · have h : y a < y b := by simpa [gt] using h
      rw [List.pairwise_cons]
      refine ⟨fun c hc => ?_, ih hm.2 fun c hc => ha c (List.mem_cons_of_mem b hc)⟩
      rcases List.mem_cons.1 ((perm_insertBefore (gt y) a m).mem_iff.1 hc) with rfl | hc
      · exact Or.inl h
      · exact hm.1 c hc
    · have h : y b ≤ y a := by simpa [gt] using h
      have hab : Lex y a b := by
        rcases h.lt_or_eq with h | h
        · exact Or.inl h
        · exact Or.inr ⟨h.symm, ha b List.mem_cons_self⟩
      rw [List.pairwise_cons]
      refine ⟨fun c hc => ?_, List.pairwise_cons.2 hm⟩
      rcases List.mem_cons.1 hc with rfl | hc
      · exact hab
      · exact hab.trans y (hm.1 c hc)

theorem sort_pairwise (l : List (Fin n)) (hl : l.Pairwise (· < ·)) : (stableSort (gt y) l).Pairwise (Lex y) := by
  induction l with
  | nil => exact List.Pairwise.nil
  | cons a l ih =>
    rw [List.pairwise_cons] at hl
    unfold stableSort
    exact insert_pairwise y a _ (ih hl.2) fun b hb => hl.1 b ((perm_stableSort _ l).mem_iff.1 hb)

/-- The position of the element the sort puts at place `k`. -/
def pick (k : Fin n) : Fin n := sortedFrom (gt y) k

theorem pick_lex (i j : Fin n) (h : i < j) : Lex y (pick y i) (pick y j) := by
  have hp := List.pairwise_iff_get.1 (sort_pairwise y (List.finRange n) (List.pairwise_lt_finRange n))
  exact hp (i.cast (length_sortPositions n (gt y)).symm) (j.cast (length_sortPositions n (gt y)).symm) h

theorem pick_lex_iff (i j : Fin n) : Lex y (pick y i) (pick y j) ↔ i < j := by
  refine ⟨fun h => ?_, pick_lex y i j⟩
  rcases lt_trichotomy i j with l | l | l
  · exact l
  · subst l
    exact absurd h (Lex.irrefl y _)
  · exact absurd (h.trans y (pick_lex y j i l)) (Lex.irrefl y _)

open Classical in
/-- How many elements come before element `s`. -/
def rank (s : Fin n) : ℕ := (Finset.univ.filter fun t => Lex y t s).card

open Classical in
theorem rank_pick (k : Fin n) : rank y (pick y k) = k.val := by
  have e : (Finset.univ.filter fun t => Lex y t (pick y k)) = (Finset.univ.filter fun i : Fin n => i < k).image (pick y) := by
    ext t
    obtain ⟨i, rfl⟩ := sortedFrom_surjective (gt y) t
    simp only [Finset.mem_filter, Finset.mem_univ, true_and, Finset.mem_image]
    constructor
    · intro h
      exact ⟨i, (pick_lex_iff y i k).1 h, rfl⟩
    · rintro ⟨j, hj, e⟩
      rw [← e]
      exact pick_lex y j k hj
  rw [rank, e, Finset.card_image_of_injective _ (show Function.Injective (pick y) from sortedFrom_injective (gt y))]
  have : (Finset.univ.filter fun i : Fin n => i < k) = Finset.Iio k := by ext; simp
  rw [this, Fin.card_Iio]

theorem rank_eq_iff (s k : Fin n) : rank y s = k.val ↔ s = pick y k := by
  constructor
  · intro h
    obtain ⟨i, rfl⟩ := sortedFrom_surjective (gt y) s
    have := rank_pick y i
    rw [show pick y i = sortedFrom (gt y) i from rfl] at this
    rw [pick, show i = k from Fin.ext (this.symm.trans h)]
  · rintro rfl
    exact rank_pick y k

end Cert.Order
-- ==== Proof.Spec.lean ====
/- The layer over the real numbers, and the two forms of attention the programs compute it in. -/
module

public import proofs.«01_k».proof.Proof.Att
public import proofs.«01_k».proof.Proof.Reals
public import proofs.«01_k».proof.Proof.Order

@[expose] public section

noncomputable section

namespace Cert.Spec

open Idealize.ShloMosaic Cert.Reals

/-- A real matrix. -/
abbrev Mat (m n : ℕ) : Type := Fin m → Fin n → ℝ

/-- A linear layer. -/
def lin {m k n : ℕ} (X : Mat m k) (W : Mat k n) (b : Fin n → ℝ) : Mat m n := fun i j => ∑ t, X i t * W t j + b j

/-- Column `x` of the head that column `C` belongs to. -/
def hd (C : Fin 1024) (x : Fin 64) : Fin 1024 := ⟨C.val / 64 * 64 + x.val, by have := C.isLt; have := x.isLt; omega⟩

/-- Column `C` of part `p` of the joint query, key and value matrix. -/
def part (p : Fin 3) (C : Fin 1024) : Fin 3072 := ⟨p.val * 1024 + C.val, by have := C.isLt; have := p.isLt; omega⟩

/-- The scaled dot product of a query row and a key row in the head of column `C`. -/
def dot {m n : ℕ} (Q : Mat m 1024) (K : Mat n 1024) (i : Fin m) (j : Fin n) (C : Fin 1024) : ℝ := (∑ x, Q i (hd C x) * K j (hd C x)) / 8

/-- The weight of key `j` for query `i` in the windowed attention. -/
def localWt (Z : Mat 2048 3072) (i j : Fin 2048) (C : Fin 1024) : ℝ :=
  if j.val ≤ i.val ∧ i.val < j.val + 512 then Real.exp (dot (fun i C => Z i (part 0 C)) (fun i C => Z i (part 1 C)) i j C) else 0

/-- The windowed attention. -/
def localOut (Z : Mat 2048 3072) : Mat 2048 1024 := fun i C => wavg (fun j => localWt Z i j C) (fun j => Z j (part 2 C))

/-- The weight of a score that is filled in where the mask does not hold. -/
def fillWt (m : Prop) [Decidable m] (s : ℝ) : ℝ := Real.exp (if m then s else -1000000000)

/-- Attention over `n` keys, with masked scores filled in. -/
def attOut {n : ℕ} (m : Fin 2048 → Fin n → Prop) [∀ i, DecidablePred (m i)] (Q : Mat 2048 1024) (K V : Mat n 1024) : Mat 2048 1024 := fun i C =>
  wavg (fun j => fillWt (m i j) (dot Q K i j C)) (fun j => V j C)

/-- Each pooled row is the mean of eight rows. -/
def comp (X : Mat 2048 1024) : Mat 192 1024 := fun c t =>
  (∑ e : Fin 8, X ⟨c.val * 8 + e.val, by have := c.isLt; have := e.isLt; omega⟩ t) / 8

/-- The position of the `p`-th greatest entry. -/
def sel (y : Fin 2048 → ℝ) (p : Fin 64) : Fin 2048 := Order.pick y ⟨p.val, by have := p.isLt; omega⟩

/-- The rows at the 64 greatest entries. -/
def picked (X : Mat 2048 1024) (y : Fin 2048 → ℝ) : Mat 64 1024 := fun p t => X (sel y p) t

def gate (z : ℝ) : ℝ := (1 + Real.exp (-z))⁻¹

/-- The real arguments of the layer. -/
structure Args where
  X : Mat 2048 1024
  Wqkv : Mat 1024 3072
  bqkv : Fin 3072 → ℝ
  Wlout : Mat 1024 1024
  blout : Fin 1024 → ℝ
  Wcq : Mat 1024 1024
  bcq : Fin 1024 → ℝ
  Wck : Mat 1024 1024
  bck : Fin 1024 → ℝ
  Wcv : Mat 1024 1024
  bcv : Fin 1024 → ℝ
  Wcout : Mat 1024 1024
  bcout : Fin 1024 → ℝ
  Wgc : Mat 1024 1024
  bgc : Fin 1024 → ℝ
  Wimp : Mat 1024 1
  bimp : Fin 1 → ℝ
  Wtq : Mat 1024 1024
  btq : Fin 1024 → ℝ
  Wtk : Mat 1024 1024
  btk : Fin 1024 → ℝ
  Wtv : Mat 1024 1024
  btv : Fin 1024 → ℝ
  Wtout : Mat 1024 1024
  btout : Fin 1024 → ℝ
  Wgt : Mat 1024 1024
  bgt : Fin 1024 → ℝ

namespace Args

variable (A : Args)

/-- The importance scores. -/
def imp : Fin 2048 → ℝ := fun i => lin A.X A.Wimp A.bimp i 0

/-- The windowed branch's attention. -/
def locAtt : Mat 2048 1024 := localOut (lin A.X A.Wqkv A.bqkv)

/-- The compressed branch's attention. -/
def cAtt : Mat 2048 1024 :=
  attOut (fun i (c : Fin 192) => (c.val + 1) * 8 ≤ i.val) (lin A.X A.Wcq A.bcq) (lin (comp A.X) A.Wck A.bck) (lin (comp A.X) A.Wcv A.bcv)

/-- The selected branch's attention. -/
def tAtt : Mat 2048 1024 :=
  attOut (fun i p => (sel A.imp p).val ≤ i.val) (lin A.X A.Wtq A.btq) (lin (picked A.X A.imp) A.Wtk A.btk) (lin (picked A.X A.imp) A.Wtv A.btv)

/-- The whole layer. -/
def out : Mat 2048 1024 := fun i j =>
  lin A.locAtt A.Wlout A.blout i j
    + gate (lin A.X A.Wgc A.bgc i j) * lin A.cAtt A.Wcout A.bcout i j
    + gate (lin A.X A.Wgt A.bgt i j) * lin A.tAtt A.Wtout A.btout i j

end Args

/-- A real matrix as an array of extended reals. -/
def R2 {m n : ℕ} (M : Mat m n) : (⟨2, ![m, n]⟩ : Shape).Idx → EReal := fun i => (M (i 0) (i 1) : EReal)

/-- A real vector as an array of extended reals. -/
def R1 {n : ℕ} (b : Fin n → ℝ) : (⟨1, ![n]⟩ : Shape).Idx → EReal := fun i => (b (i 0) : EReal)

/-- A real matrix as a one-batch array of extended reals. -/
def R3 {m n : ℕ} (M : Mat m n) : (⟨3, ![1, m, n]⟩ : Shape).Idx → EReal := fun i => (M (i 1) (i 2) : EReal)

/-! ### The forms the programs compute -/

theorem wavg_eq_of_exp {n : ℕ} (M : ℝ) (s v : Fin n → ℝ) : wavg (fun j => Real.exp (s j - M)) v = wavg (fun j => Real.exp (s j)) v := by
  rw [← wavg_scale (Real.exp (-M)) (Real.exp_ne_zero _) (fun j => Real.exp (s j)) v]
  congr 1
  funext j
  rw [← Real.exp_add]
  congr 1
  ring

theorem exp_pos_sum {n : ℕ} (hn : 0 < n) (s : Fin n → ℝ) : ∑ j, Real.exp (s j) ≠ 0 := by
  haveI : Nonempty (Fin n) := ⟨⟨0, hn⟩⟩
  exact (Finset.sum_pos (fun j _ => Real.exp_pos _) Finset.univ_nonempty).ne'

/-- The scaled score of real rows. -/
theorem score_real (Q K : Fin 64 → ℝ) : Att.score (fun x => (Q x : EReal)) (fun x => (K x : EReal)) = (((∑ x, Q x * K x) / 8 : ℝ) : EReal) := by
  unfold Att.score
  rw [bits_eighth, Finset.sum_div]
  rw [← coe_sum]
  refine Finset.sum_congr rfl fun x _ => ?_
  rw [← EReal.coe_mul, ← EReal.coe_mul]
  congr 1
  ring

/-- Attention whose masked scores are filled in, on real rows. -/
theorem maxAtt_real {n : ℕ} (hn : 0 < n) (m : Fin n → Prop) [DecidablePred m] (Q : Fin 64 → ℝ) (K : Fin n → Fin 64 → ℝ) (V : Fin n → ℝ) :
    Att.maxAtt m (fun x => (Q x : EReal)) (fun j x => (K j x : EReal)) (fun j => (V j : EReal))
      = ((wavg (fun j => fillWt (m j) ((∑ x, Q x * K j x) / 8)) V : ℝ) : EReal) := by
  unfold Att.maxAtt
  have hs : ∀ j, (if m j then Att.score (fun x => (Q x : EReal)) (fun x => (K j x : EReal)) else Ideal.ofBits .f32 0xCE6E6B28#32)
      = (((if m j then (∑ x, Q x * K j x) / 8 else -1000000000 : ℝ)) : EReal) := by
    intro j
    rw [score_real, bits_fill]
    split_ifs <;> rfl
  simp only [hs, bits_neg_inf]
  obtain ⟨M, hM⟩ := fold_max_real (fun j => (((if m j then (∑ x, Q x * K j x) / 8 else -1000000000 : ℝ)) : EReal))
    (fun j => EReal.coe_lt_top _) ⟨⟨0, hn⟩, EReal.bot_lt_coe _⟩
  rw [hM]
  simp only [← EReal.coe_sub, exp_coe]
  rw [div_form _ _ (exp_pos_sum hn _), wavg_eq_of_exp]
  rfl

/-- A softmax row on scores of which some are minus infinity, applied to real values. -/
theorem softmax_real {n : ℕ} (m : Fin n → Prop) [DecidablePred m] (r v : Fin n → ℝ) (h : ∃ j, m j) (s : Fin n → EReal)
    (hs : ∀ j, s j = if m j then (r j : EReal) else ⊥) (M : EReal)
    (hM : M = max (Ideal.ofBits .f32 0xFF800000#32) (Finset.univ.fold max (Ideal.ofBits .f32 0xFF800000#32) s)) :
    ∑ j, Ideal.div (Ideal.exp (s j - M)) (∑ j, Ideal.exp (s j - M)) * (v j : EReal)
      = ((wavg (fun j => if m j then Real.exp (r j) else 0) v : ℝ) : EReal) := by
  obtain ⟨j0, hj0⟩ := h
  obtain ⟨R, hR⟩ := fold_max_real s (fun j => by rw [hs]; split_ifs; exacts [EReal.coe_lt_top _, bot_lt_top])
    ⟨j0, by rw [hs, if_pos hj0]; exact EReal.bot_lt_coe _⟩
  rw [bits_neg_inf, hR, max_eq_right bot_le] at hM
  subst hM
  have he : ∀ j, Ideal.exp (s j - (R : EReal)) = ((Real.exp (-R) * (if m j then Real.exp (r j) else 0) : ℝ) : EReal) := by
    intro j
    rw [hs]
    split_ifs
    · rw [← EReal.coe_sub, exp_coe, ← Real.exp_add]
      congr 2
      ring
    · rw [mul_zero, EReal.bot_sub]
      rfl
  simp only [he]
  rw [ref_form, wavg_scale _ (Real.exp_ne_zero _)]
  rw [← Finset.mul_sum]
  refine mul_ne_zero (Real.exp_ne_zero _) (ne_of_gt ?_)
  refine Finset.sum_pos' (fun j _ => ?_) ⟨j0, Finset.mem_univ _, ?_⟩
  · split_ifs
    exacts [(Real.exp_pos _).le, le_rfl]
  · rw [if_pos hj0]
    exact Real.exp_pos _

/-- The blockwise sums of real rows with masking biases. -/
theorem block_sum (p : Fin 256 → Prop) [DecidablePred p] (b : Fin 256 → EReal) (hb : ∀ s, b s = if p s then 0 else ⊥) (Q : Fin 64 → ℝ)
    (K : Fin 256 → Fin 64 → ℝ) (s : Fin 256) :
    Ideal.exp (Att.score (fun x => (Q x : EReal)) (fun x => (K s x : EReal)) + b s)
      = (((if p s then Real.exp ((∑ x, Q x * K s x) / 8) else 0 : ℝ)) : EReal) := by
  rw [hb, score_real]
  split_ifs
  · rw [add_zero, exp_coe]
  · rw [EReal.add_bot]
    rfl

/-- A sum over 2048 positions whose terms vanish outside block `B` and the two before it. -/
theorem sum_blocks (f : Fin 2048 → ℝ) (B : Fin 8) (g2 g1 g0 : Fin 256 → ℝ)
    (h2 : ∀ s : Fin 256, g2 s = if h : 2 ≤ B.val then f ⟨(B.val - 2) * 256 + s.val, by have := B.isLt; have := s.isLt; omega⟩ else 0)
    (h1 : ∀ s : Fin 256, g1 s = if h : 1 ≤ B.val then f ⟨(B.val - 1) * 256 + s.val, by have := B.isLt; have := s.isLt; omega⟩ else 0)
    (h0 : ∀ s : Fin 256, g0 s = f ⟨B.val * 256 + s.val, by have := B.isLt; have := s.isLt; omega⟩)
    (hz : ∀ b : Fin 8, (B.val < b.val ∨ b.val + 2 < B.val) → ∀ s : Fin 256, f ⟨b.val * 256 + s.val, by have := b.isLt; have := s.isLt; omega⟩ = 0) :
    ∑ s, g2 s + ∑ s, g1 s + ∑ s, g0 s = ∑ j, f j := by
  have e : ∑ j, f j = ∑ b : Fin 8, ∑ s : Fin 256, f ⟨b.val * 256 + s.val, by have := b.isLt; have := s.isLt; omega⟩ := by
    rw [← Fintype.sum_prod_type']
    refine (Fintype.sum_equiv (finProdFinEquiv (m := 8) (n := 256)) _ _ fun bs => ?_).symm
    congr 1
    refine Fin.ext ?_
    show bs.1.val * 256 + bs.2.val = bs.2.val + 256 * bs.1.val
    omega
  rw [e, funext h2, funext h1, funext h0]
  have hz' : ∀ b : Fin 8, (B.val < b.val ∨ b.val + 2 < B.val) → ∑ s : Fin 256, f ⟨b.val * 256 + s.val, by have := b.isLt; have := s.isLt; omega⟩ = 0 :=
    fun b hb => Finset.sum_eq_zero fun s _ => hz b hb s
  generalize hF : (fun b : Fin 8 => ∑ s : Fin 256, f ⟨b.val * 256 + s.val, by have := b.isLt; have := s.isLt; omega⟩) = F
  have hFb : ∀ b : Fin 8, ∑ s : Fin 256, f ⟨b.val * 256 + s.val, by have := b.isLt; have := s.isLt; omega⟩ = F b := fun b => congrFun hF b
  simp only [hFb] at hz' ⊢
  have e2 : ∑ s : Fin 256, (if h : 2 ≤ B.val then f ⟨(B.val - 2) * 256 + s.val, by have := B.isLt; have := s.isLt; omega⟩ else 0)
      = if 2 ≤ B.val then F ⟨B.val - 2, by have := B.isLt; omega⟩ else 0 := by
    split_ifs with h
    · exact hFb ⟨B.val - 2, by have := B.isLt; omega⟩
    · exact Finset.sum_const_zero
  have e1 : ∑ s : Fin 256, (if h : 1 ≤ B.val then f ⟨(B.val - 1) * 256 + s.val, by have := B.isLt; have := s.isLt; omega⟩ else 0)
      = if 1 ≤ B.val then F ⟨B.val - 1, by have := B.isLt; omega⟩ else 0 := by
    split_ifs with h
    · exact hFb ⟨B.val - 1, by have := B.isLt; omega⟩
    · exact Finset.sum_const_zero
  rw [e2, e1, Fin.sum_univ_eight]
  clear hF hFb e2 e1 e h2 h1 h0 hz
  have z := fun b hb => hz' b hb
  fin_cases B <;> simp [hz'] <;> ring

end Cert.Spec
-- ==== Proof.K0.lean ====
/- The projection call: each of its four results as an affine map of the rows of x. -/
module

public import proofs.«01_k».proof.Proof.Gen.KernelIdeal.Frame.Region0
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The affine map the call applies to the rows of `x`. -/
def affine {m k n : ℕ} (x : FVec Ideal ⟨2, ![m, k]⟩ .f32) (w : FVec Ideal ⟨2, ![k, n]⟩ .f32) (b : FVec Ideal ⟨2, ![1, n]⟩ .f32) :
    (⟨2, ![m, n]⟩ : Shape).Idx → EReal :=
  fun i => (∑ t : Fin k, x (ix2 (i 0) t) * w (ix2 t (i 1))) + b (ix2 0 (i 1))

theorem point0_9 (c : Dev nD) (t : Fin cfg0.N) (y) :
    k0_pay3 (iblk0 V c 0 t) (iblk0 V c 1 t) (iblk0 V c 5 t) y
      = affine (V c main_v0) (V c main_arg1) (V c main_v1) (((cfg0.win 9).blk t).view.emb y) := by
  pointwise [k0_pay3, k0_pay2, affine]
  blk_point [iblk0, idx0 t]

theorem arr0_9 (c : Dev nD) : (dat0 V c).arrAt 9 cfg0.N = affine (V c main_v0) (V c main_arg1) (V c main_v1) := by
  refine (dat0 V c).arrAt_eq_of_covers 9 _ (by decide +kernel) fun t _ y => ?_
  blk_simp
  rw [after0_9]; frame_out
  exact point0_9 V c t y

theorem point0_10 (c : Dev nD) (t : Fin cfg0.N) (y) :
    k0_pay4 (iblk0 V c 0 t) (iblk0 V c 2 t) (iblk0 V c 6 t) y
      = affine (V c main_v0) (V c main_arg5) (V c main_v2) (((cfg0.win 10).blk t).view.emb y) := by
  pointwise [k0_pay4, k0_pay2, affine]
  blk_point [iblk0, idx0 t]

theorem arr0_10 (c : Dev nD) : (dat0 V c).arrAt 10 cfg0.N = affine (V c main_v0) (V c main_arg5) (V c main_v2) := by
  refine (dat0 V c).arrAt_eq_of_covers 10 _ (by decide +kernel) fun t _ y => ?_
  blk_simp
  rw [after0_10]; frame_out
  exact point0_10 V c t y

theorem point0_11 (c : Dev nD) (t : Fin cfg0.N) (y) :
    k0_pay5 (iblk0 V c 0 t) (iblk0 V c 3 t) (iblk0 V c 7 t) y
      = affine (V c main_v0) (V c main_arg17) (V c main_v3) (((cfg0.win 11).blk t).view.emb y) := by
  pointwise [k0_pay5, k0_pay2, affine]
  blk_point [iblk0, idx0 t]

theorem arr0_11 (c : Dev nD) : (dat0 V c).arrAt 11 cfg0.N = affine (V c main_v0) (V c main_arg17) (V c main_v3) := by
  refine (dat0 V c).arrAt_eq_of_covers 11 _ (by decide +kernel) fun t _ y => ?_
  blk_simp
  rw [after0_11]; frame_out
  exact point0_11 V c t y

theorem point0_12 (c : Dev nD) (t : Fin cfg0.N) (y) :
    k0_pay1 (k0_pay6 (iblk0 V c 0 t) (iblk0 V c 4 t)) (iblk0 V c 8 t) y
      = affine (V c main_v0) (V c main_arg15) (V c main_v4) (((cfg0.win 12).blk t).view.emb y) := by
  pointwise [k0_pay1, k0_pay6, k0_pay2, affine]
  blk_point [iblk0, idx0 t]

theorem arr0_12 (c : Dev nD) : (dat0 V c).arrAt 12 cfg0.N = affine (V c main_v0) (V c main_arg15) (V c main_v4) := by
  refine (dat0 V c).arrAt_eq_of_covers 12 _ (by decide +kernel) fun t _ y => ?_
  blk_simp
  rw [after0_12]; frame_out
  exact point0_12 V c t y

end Cert.KernelIdeal.Value

end
-- ==== Proof.Words.lean ====
/- Index words and the numbers that the kernel's comparisons turn into. -/
module

public import Idealize.ShloMosaic.Lib.Pointwise
public import Idealize.ShloMosaic.Lib.WordCmp

@[expose] public section

noncomputable section

namespace Cert.Words

open Idealize.ShloMosaic Idealize.ShloMosaic.WordCmp

/-- A comparison's bit, widened and converted, is one or zero. -/
theorem sitofp_bit (p : Prop) [Decidable p] :
    FloatOps.sitofp (F := Ideal) .f32 (BitVec.setWidth 32 (BitVec.ofBool (decide p))) = if p then (1 : EReal) else 0 := by
  have h : ∀ b : BitVec 32, FloatOps.sitofp (F := Ideal) .f32 b = ((b.toInt : ℝ) : EReal) := fun _ => rfl
  rw [h]
  by_cases hp : p <;> simp [hp]

/-- An index word converts to its natural number. -/
theorem sitofp_nat (n : ℕ) (h : n < 2 ^ 31) :
    FloatOps.sitofp (F := Ideal) .f32 (BitVec.ofNat 32 n) = ((n : ℝ) : EReal) := by
  have h' : ∀ b : BitVec 32, FloatOps.sitofp (F := Ideal) .f32 b = ((b.toInt : ℝ) : EReal) := fun _ => rfl
  rw [h', toInt_ofNat_of_lt (by simpa using h)]
  simp

/-- The position of row `y` of block `a`, as a word. -/
theorem block_word (a y n : ℕ) : IntOp.addi (Scalar.muli (BitVec.ofNat 32 a) (BitVec.ofNat 32 n)) (BitVec.ofNat 32 y)
    = BitVec.ofNat 32 (a * n + y) := by
  apply BitVec.eq_of_toNat_eq
  simp [IntOp.addi, Scalar.muli, IntOp.muli, BitVec.toNat_add, BitVec.toNat_mul]

/-- The two block distances the local mask looks at. -/
theorem far_word (r s : ℕ) (hr : r < 256) (hs : s < 256) :
    IntOp.cmpi .slt (IntOp.addi (IntOp.subi (BitVec.ofNat 32 r) (BitVec.ofNat 32 s)) 512#32) 512#32
      = BitVec.ofBool (decide (r < s)) := by
  have e : IntOp.addi (IntOp.subi (BitVec.ofNat 32 r) (BitVec.ofNat 32 s)) 512#32 = BitVec.ofNat 32 (r + 512 - s) := by
    apply BitVec.eq_of_toNat_eq
    simp [IntOp.addi, IntOp.subi, BitVec.toNat_add, BitVec.toNat_sub]
    omega
  rw [e, cmpi_slt_ofNat (by omega) (by omega)]
  congr 1
  exact decide_eq_decide.2 (by omega)

theorem near_word (r s : ℕ) (hr : r < 256) (hs : s < 256) :
    IntOp.cmpi .sge (IntOp.subi (BitVec.ofNat 32 r) (BitVec.ofNat 32 s)) 0#32 = BitVec.ofBool (decide (s ≤ r)) := by
  rw [cmpi_sge_eq]
  congr 1
  refine decide_eq_decide.2 ?_
  rw [BitVec.toInt_eq_toNat_cond, BitVec.toInt_eq_toNat_cond]
  simp only [IntOp.subi, BitVec.toNat_sub, BitVec.toNat_ofNat]
  split_ifs <;> omega

/-- A choice on a comparison's bit. -/
theorem select_bit {α : Type} (p : Prop) [Decidable p] (a b : α) :
    Scalar.select (BitVec.ofBool (decide p)) a b = if p then a else b := by
  by_cases h : p <;> simp [h, Scalar.select]

end Cert.Words

end
-- ==== Proof.KHost.lean ====
/- What the host operations between the calls leave, as functions of what they read. -/
module

public import proofs.«01_k».proof.Proof.K0
public import proofs.«01_k».proof.Proof.Words
public import Idealize.ShloMosaic.Lib.WordCmp
public import proofs.«01_k».proof.Proof.Gen.KernelIdeal.Frame
public import Idealize.ShloMosaic.Lib.StableHlo.ReadAt
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen

variable (W : Valuation τ sig (Elt Ideal))

/-- A one-batch array as a matrix. -/
def flat (a : FVec Ideal ⟨3, ![1, 2048, 1024]⟩ .f32) : (⟨2, ![2048, 1024]⟩ : Shape).Idx → EReal := fun i => a (ix3 0 (i 0) (i 1))

/-- A vector as a one-row matrix. -/
def row {n : ℕ} (b : FVec Ideal ⟨1, ![n]⟩ .f32) : (⟨2, ![1, n]⟩ : Shape).Idx → EReal := fun i => b (ix1 (i 1))

/-- A one-column matrix as a one-row matrix. -/
def turn {n : ℕ} (b : FVec Ideal ⟨2, ![n, 1]⟩ .f32) : (⟨2, ![1, n]⟩ : Shape).Idx → EReal := fun i => b (ix2 (i 1) 0)

/-- Two matrices side by side. -/
def beside (a b : FVec Ideal ⟨2, ![1024, 1024]⟩ .f32) : (⟨2, ![1024, 2048]⟩ : Shape).Idx → EReal := fun i =>
  if h : (i 1).val < 1024 then a (ix2 (i 0) ⟨(i 1).val, h⟩) else b (ix2 (i 0) ⟨(i 1).val - 1024, by have : (i 1).val < 2048 := (i 1).isLt; omega⟩)

/-- Two vectors end to end, as a one-row matrix. -/
def besideRow (a b : FVec Ideal ⟨1, ![1024]⟩ .f32) : (⟨2, ![1, 2048]⟩ : Shape).Idx → EReal := fun i =>
  if h : (i 1).val < 1024 then a (ix1 ⟨(i 1).val, h⟩) else b (ix1 ⟨(i 1).val - 1024, by have : (i 1).val < 2048 := (i 1).isLt; omega⟩)

/-- The first 1536 rows. -/
def top (a : FVec Ideal ⟨2, ![2048, 1024]⟩ .f32) : (⟨2, ![1536, 1024]⟩ : Shape).Idx → EReal := fun i =>
  a (ix2 ⟨(i 0).val, by have : (i 0).val < 1536 := (i 0).isLt; omega⟩ (i 1))

/-- The pooling matrix: row `p` weighs each of the columns `8 p … 8 p + 7` by an eighth. -/
def poolMat : (⟨2, ![192, 1536]⟩ : Shape).Idx → EReal := fun i =>
  (if (i 1).val / 8 = (i 0).val then (1 : EReal) else 0) * Ideal.ofBits .f32 0x3E000000#32

theorem h0_v0 : StableHlo.after hostOps0 W (Proc.devRef .tc main_v0) = flat (W (Proc.devRef .tc main_arg0)) := by
  funext i
  after_reads_at
  rfl

theorem h0_v1 : StableHlo.after hostOps0 W (Proc.devRef .tc main_v1) = row (W (Proc.devRef .tc main_arg2)) := by
  funext i
  after_reads_at
  rfl

theorem h0_v4 : StableHlo.after hostOps0 W (Proc.devRef .tc main_v4) = row (W (Proc.devRef .tc main_arg16)) := by
  funext i
  after_reads_at
  exact congrArg (fun t : Fin 1 => W (Proc.devRef .tc main_arg16) (ix1 t)) (Subsingleton.elim (0 : Fin 1) (i 1))

theorem pool_bit (a b : ℕ) (ha : a < 192) (hb : b < 1536) :
    FloatOps.uitofp (F := Ideal) .f32 (IntOp.cmpi .eq (IntOp.addi (BitVec.ofNat 32 a) 0#32) (BitVec.ofNat 32 (b / 8)))
      = if b / 8 = a then (1 : EReal) else 0 := by
  have h : ∀ p : BitVec 1, FloatOps.uitofp (F := Ideal) .f32 p = ((p.toNat : ℝ) : EReal) := fun _ => rfl
  have e : IntOp.addi (BitVec.ofNat 32 a) 0#32 = BitVec.ofNat 32 a := by simp [IntOp.addi]
  rw [h, e, WordCmp.cmpi_eq_ofNat (by omega) (by omega)]
  by_cases hp : b / 8 = a
  · simp [hp]
  · have hp' : ¬ a = b / 8 := fun e => hp e.symm
    simp [hp, hp']

theorem h1_v15 : StableHlo.after hostOps1 W (Proc.devRef .tc main_v15) = poolMat := by
  funext i
  after_reads_at
  show _ = (if (i 1).val / 8 = (i 0).val then (1 : EReal) else 0) * Ideal.ofBits .f32 0x3E000000#32
  have h0 : (i 0).val < 192 := (i 0).isLt
  have h1 : (i 1).val < 1536 := (i 1).isLt
  congr 1
  exact pool_bit (i 0).val (i 1).val h0 h1

theorem h1_v16 : StableHlo.after hostOps1 W (Proc.devRef .tc main_v16) = beside (W (Proc.devRef .tc main_arg7)) (W (Proc.devRef .tc main_arg9)) := by
  funext i
  after_reads_at
  rfl

theorem h1_v18 : StableHlo.after hostOps1 W (Proc.devRef .tc main_v18) = besideRow (W (Proc.devRef .tc main_arg8)) (W (Proc.devRef .tc main_arg10)) := by
  funext i
  after_reads_at
  rfl

theorem h1_v19 : StableHlo.after hostOps1 W (Proc.devRef .tc main_v19) = top (W (Proc.devRef .tc main_v0)) := by
  funext i
  after_reads_at
  rfl

theorem h2_v21 : StableHlo.after hostOps2 W (Proc.devRef .tc main_v21) = turn (W (Proc.devRef .tc main_v5_3)) := by
  funext i
  after_reads_at
  rfl

theorem h5_v29 : StableHlo.after hostOps5 W (Proc.devRef .tc main_v29) = turn (W (Proc.devRef .tc main_v27_1)) := by
  funext i
  after_reads_at
  rfl

theorem h0_v2 : StableHlo.after hostOps0 W (Proc.devRef .tc main_v2) = row (W (Proc.devRef .tc main_arg6)) := by
  funext i
  after_reads_at
  rfl

theorem h0_v3 : StableHlo.after hostOps0 W (Proc.devRef .tc main_v3) = row (W (Proc.devRef .tc main_arg18)) := by
  funext i
  after_reads_at
  rfl

theorem h3_v23 : StableHlo.after hostOps3 W (Proc.devRef .tc main_v23) = beside (W (Proc.devRef .tc main_arg19)) (W (Proc.devRef .tc main_arg21)) := by
  funext i
  after_reads_at
  rfl

theorem h3_v25 : StableHlo.after hostOps3 W (Proc.devRef .tc main_v25) = besideRow (W (Proc.devRef .tc main_arg20)) (W (Proc.devRef .tc main_arg22)) := by
  funext i
  after_reads_at
  rfl

theorem h3_v26 : StableHlo.after hostOps3 W (Proc.devRef .tc main_v26) = turn (W (Proc.devRef .tc main_v22)) := by
  funext i
  after_reads_at
  rfl

theorem h6_v31 : StableHlo.after hostOps6 W (Proc.devRef .tc main_v31) = row (W (Proc.devRef .tc main_arg4)) := by
  funext i
  after_reads_at
  rfl

theorem h6_v32 : StableHlo.after hostOps6 W (Proc.devRef .tc main_v32) = row (W (Proc.devRef .tc main_arg12)) := by
  funext i
  after_reads_at
  rfl

theorem h6_v33 : StableHlo.after hostOps6 W (Proc.devRef .tc main_v33) = row (W (Proc.devRef .tc main_arg24)) := by
  funext i
  after_reads_at
  rfl

theorem h6_v34 : StableHlo.after hostOps6 W (Proc.devRef .tc main_v34) = row (W (Proc.devRef .tc main_arg14)) := by
  funext i
  after_reads_at
  rfl

theorem h6_v35 : StableHlo.after hostOps6 W (Proc.devRef .tc main_v35) = row (W (Proc.devRef .tc main_arg26)) := by
  funext i
  after_reads_at
  rfl

/-- A matrix as a one-batch array. -/
def unflat (a : FVec Ideal ⟨2, ![2048, 1024]⟩ .f32) : (⟨3, ![1, 2048, 1024]⟩ : Shape).Idx → EReal := fun i => a (ix2 (i 1) (i 2))

theorem h7_v37 : StableHlo.after hostOps7 W (Proc.devRef .tc main_v37) = unflat (W (Proc.devRef .tc main_v36)) := by
  funext i
  after_reads_at
  rfl

end Cert.KernelIdeal.Value
-- ==== Proof.K1.lean ====
/- The pooling call: the pooled rows of x, mapped to the keys and values of the compressed branch. -/
module

public import proofs.«01_k».proof.Proof.K0
public import proofs.«01_k».proof.Proof.Gen.KernelIdeal.Frame.Region1
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx1 : ∀ t : Fin cfg1.N, win1_0.index t = ![0, 0] ∧ win1_1.index t = ![0, 0] ∧ win1_2.index t = ![0, 0]
    ∧ win1_3.index t = ![0, 0] ∧ win1_4.index t = ![0, 0] :=
  (by decide +kernel : ∀ t : Fin grid1.N, _)

/-- The product of two matrices. -/
def mprod {m k n : ℕ} (x : FVec Ideal ⟨2, ![m, k]⟩ .f32) (w : FVec Ideal ⟨2, ![k, n]⟩ .f32) :
    FVec Ideal ⟨2, ![m, n]⟩ .f32 :=
  fun i => ∑ t : Fin k, x (ix2 (i 0) t) * w (ix2 t (i 1))

theorem arr1_4 (c : Dev nD) : (dat1 V c).arrAt 4 cfg1.N
    = affine (mprod (V c main_v15) (V c main_v19)) (V c main_v16) (V c main_v18) := by
  refine (dat1 V c).arrAt_eq_of_covers 4 _ (by decide +kernel) fun t _ y => ?_
  blk_simp
  rw [after1_4]; frame_out
  pointwise [k1_pay1, affine, mprod]
  blk_point [iblk1, idx1 t]

end Cert.KernelIdeal.Value

end
-- ==== Proof.K2.lean ====
/- The rank call: how many tokens come before each token in the order of importance. -/
module

public import proofs.«01_k».proof.Proof.K0
public import proofs.«01_k».proof.Proof.Words
public import proofs.«01_k».proof.Proof.Gen.KernelIdeal.Frame.Region2
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx2 : ∀ t : Fin cfg2.N, win2_0.index t = ![t.val, 0] ∧ win2_1.index t = ![0, 0] ∧ win2_2.index t = ![t.val, 0]
    ∧ (grid2.coords t 0).val = t.val ∧ t.val < 8 :=
  (by decide +kernel : ∀ t : Fin grid2.N, _)

/-- How many tokens come before each token: those of greater importance, and those of equal importance before it. -/
def rankCol (col : FVec Ideal ⟨2, ![2048, 1]⟩ .f32) (row : FVec Ideal ⟨2, ![1, 2048]⟩ .f32) :
    (⟨2, ![2048, 1]⟩ : Shape).Idx → EReal := fun i => ∑ s : Fin 2048,
    ((if col (ix2 (i 0) 0) < row (ix2 0 s) then (1 : EReal) else 0)
      + (if row (ix2 0 s) = col (ix2 (i 0) 0) ∧ s.val < (i 0).val then (1 : EReal) else 0))

theorem point2_2 (c : Dev nD) (t : Fin cfg2.N) (y) :
    k2_pay1 (grid2.coords t) (iblk2 V c 0 t) (iblk2 V c 1 t) y
      = rankCol (V c main_v5_3) (V c main_v21) (((cfg2.win 2).blk t).view.emb y) := by
  obtain ⟨h0, h1, h2, h3, h4⟩ := idx2 t
  have hy : (y 0).val < 256 := (y 0).isLt
  have he : ((cfg2.win 2).blk t).view.emb y = ix2 ⟨t.val * 256 + (y 0).val, by omega⟩ ⟨0, by omega⟩ := by
    funext a
    fin_cases a <;> apply Fin.ext <;> (blk_simp [idx2 t] <;> rfl)
  have hc : iblk2 V c 0 t (ix2 (y 0) 0) = V c main_v5_3 (ix2 ⟨t.val * 256 + (y 0).val, by omega⟩ ⟨0, by omega⟩) :=
    congrArg (V c main_v5_3) (a₁ := ((cfg2.win 0).blk t).view.emb (ix2 (y 0) 0)) (by
      funext a
      fin_cases a <;> apply Fin.ext <;> (blk_simp [idx2 t] <;> rfl))
  have hr (s : Fin 2048) : iblk2 V c 1 t (ix2 0 s) = V c main_v21 (ix2 0 s) :=
    congrArg (V c main_v21) (a₁ := ((cfg2.win 1).blk t).view.emb (ix2 0 s)) (by
      funext a
      fin_cases a <;> apply Fin.ext <;> (blk_simp [idx2 t] <;> rfl))
  rw [he]
  pointwise [k2_pay1, rankCol]
  refine Finset.sum_congr rfl fun s _ => ?_
  have hs := s.isLt
  rw [h3, Words.block_word, WordCmp.cmpi_slt_ofNat (by omega) (by omega), WordCmp.andi_ofBool, ← Bool.decide_and, Words.sitofp_bit, Words.sitofp_bit]
  rw [hc, hr s]
  rfl

theorem arr2_2 (c : Dev nD) : (dat2 V c).arrAt 2 cfg2.N = rankCol (V c main_v5_3) (V c main_v21) := by
  refine (dat2 V c).arrAt_eq_of_covers 2 _ (by decide +kernel) fun t _ y => ?_
  blk_simp
  rw [after2_2]; frame_out
  exact point2_2 V c t y

end Cert.KernelIdeal.Value

end
-- ==== Proof.K3.lean ====
/- The selection call: the rows of x at each slot's token, mapped to keys and values, and the tokens' positions. -/
module

public import proofs.«01_k».proof.Proof.K0
public import proofs.«01_k».proof.Proof.Words
public import proofs.«01_k».proof.Proof.Gen.KernelIdeal.Frame.Region3
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx3 : ∀ t : Fin cfg3.N, win3_0.index t = ![0, 0] ∧ win3_1.index t = ![0, 0] ∧ win3_2.index t = ![0, 0]
    ∧ win3_3.index t = ![0, 0] ∧ win3_4.index t = ![0, 0] ∧ win3_5.index t = ![0, 0] :=
  (by decide +kernel : ∀ t : Fin grid3.N, _)

/-- One where a token's rank is the slot's number. -/
def hit (rk : FVec Ideal S1x2048 .f32) (p : Fin 64) (s : Fin 2048) : EReal :=
  if rk (ix2 0 s) = ((p.val : ℝ) : EReal) then 1 else 0

/-- The position of each slot's token. -/
def slotPos (rk : FVec Ideal S1x2048 .f32) : (⟨2, ![64, 1]⟩ : Shape).Idx → EReal :=
  fun i => ∑ s : Fin 2048, hit rk (i 0) s * ((s.val : ℝ) : EReal)

/-- The row of `x` at each slot's token. -/
def slotRow (rk : FVec Ideal S1x2048 .f32) (x : FVec Ideal ⟨2, ![2048, 1024]⟩ .f32) : FVec Ideal ⟨2, ![64, 1024]⟩ .f32 :=
  fun i => ∑ s : Fin 2048, hit rk (i 0) s * x (ix2 s (i 1))

theorem point3_5 (c : Dev nD) (t : Fin cfg3.N) (y) :
    k3_pay2 (iblk3 V c 0 t) y = slotPos (V c main_v26) (((cfg3.win 5).blk t).view.emb y) := by
  have hy : (y 0).val < 64 := (y 0).isLt
  pointwise [k3_pay2, k3_pay1, hit, slotPos]
  refine Finset.sum_congr rfl fun s _ => ?_
  have hs := s.isLt
  rw [Words.sitofp_bit, Words.sitofp_nat _ (by omega), Words.sitofp_nat _ (by omega)]
  blk_point [iblk3, idx3 t]

theorem arr3_5 (c : Dev nD) : (dat3 V c).arrAt 5 cfg3.N = slotPos (V c main_v26) := by
  refine (dat3 V c).arrAt_eq_of_covers 5 _ (by decide +kernel) fun t _ y => ?_
  blk_simp
  rw [after3_5]; frame_out
  exact point3_5 V c t y

theorem point3_4 (c : Dev nD) (t : Fin cfg3.N) (y) :
    k3_pay3 (iblk3 V c 0 t) (iblk3 V c 1 t) (iblk3 V c 2 t) (iblk3 V c 3 t) y
      = affine (slotRow (V c main_v26) (V c main_v0)) (V c main_v23) (V c main_v25) (((cfg3.win 4).blk t).view.emb y) := by
  have hy : (y 0).val < 64 := (y 0).isLt
  pointwise [k3_pay3, k3_pay1, hit, affine, slotRow]
  simp only [Words.sitofp_bit, Words.sitofp_nat _ (lt_trans hy (by decide : 64 < 2 ^ 31))]
  blk_point [iblk3, idx3 t]

theorem arr3_4 (c : Dev nD) : (dat3 V c).arrAt 4 cfg3.N =
    affine (slotRow (V c main_v26) (V c main_v0)) (V c main_v23) (V c main_v25) := by
  refine (dat3 V c).arrAt_eq_of_covers 4 _ (by decide +kernel) fun t _ y => ?_
  blk_simp
  rw [after3_4]; frame_out
  exact point3_4 V c t y

end Cert.KernelIdeal.Value

end
-- ==== Proof.K4.lean ====
/- The local attention call: each query row over the keys of its block of 256 rows and of the two blocks before. -/
module

public import proofs.«01_k».proof.Proof.K0
public import proofs.«01_k».proof.Proof.Words
public import proofs.«01_k».proof.Proof.Att
public import proofs.«01_k».proof.Proof.Gen.KernelIdeal.Frame.Region4
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem mask_bot : Named.named (F := Ideal) κ "mask" (φ := .f32) 0xCE6E6B29#32 = (⊥ : EReal) := rfl

/-- What is added to the scores of the block two before the query's. -/
theorem bias_far (i : grid4.Coords) (r s : Fin 256) :
    k4_pay3 (F := Ideal) i (ix2 r s) = if 2 ≤ (i 1).val ∧ r.val < s.val then (0 : EReal) else ⊥ := by
  have hi : (i 1).val < 8 := (i 1).isLt
  pointwise [k4_pay3, k4_pay2]
  rw [Words.far_word _ _ r.isLt s.isLt, show Scalar.cmpi .sge (BitVec.ofNat 32 (i 1).val) 2#32 = BitVec.ofBool (decide (2 ≤ (i 1).val)) from
    WordCmp.cmpi_sge_ofNat (by omega) (by omega), WordCmp.andi_ofBool, ← Bool.decide_and, mask_bot, Words.select_bit]

/-- What is added to the scores of the block just before the query's. -/
theorem bias_mid (i : grid4.Coords) : k4_pay4 (F := Ideal) i = if 1 ≤ (i 1).val then (0 : EReal) else ⊥ := by
  have hi : (i 1).val < 8 := (i 1).isLt
  pointwise [k4_pay4]
  rw [show Scalar.cmpi .sge (BitVec.ofNat 32 (i 1).val) 1#32 = BitVec.ofBool (decide (1 ≤ (i 1).val)) from
    WordCmp.cmpi_sge_ofNat (by omega) (by omega), mask_bot, Words.select_bit]

/-- What is added to the scores of the query's own block. -/
theorem bias_near (r s : Fin 256) :
    k4_pay5 (F := Ideal) (ix2 r s) = if s.val ≤ r.val then (0 : EReal) else ⊥ := by
  pointwise [k4_pay5, k4_pay2]
  rw [Words.near_word _ _ r.isLt s.isLt, mask_bot, Words.select_bit]

/-- One query row's attention over three blocks of keys, each with its bias: columns `o … o + 63` of the blocks are the head's. -/
def headRow (o : ℕ) (ho : o + 64 ≤ 128) (b2 b1 b0 : Fin 256 → EReal) (q : FVec Ideal S256x128 .bf16)
    (k2 k1 k0 w2 w1 w0 : FVec Ideal S256x128 .bf16) (r : Fin 256) (d : Fin 128) : EReal :=
  Att.rowAtt b2 b1 b0 (fun x => q (ix2 r ⟨o + x.val, by omega⟩)) (fun s x => k2 (ix2 s ⟨o + x.val, by omega⟩))
    (fun s x => k1 (ix2 s ⟨o + x.val, by omega⟩)) (fun s x => k0 (ix2 s ⟨o + x.val, by omega⟩))
    (fun s => w2 (ix2 s d)) (fun s => w1 (ix2 s d)) (fun s => w0 (ix2 s d))

theorem low_head (i : grid4.Coords) (q k2 k1 k0 w2 w1 w0 : FVec Ideal S256x128 .bf16) (r : Fin 256) (d : Fin 64) :
    k4_pay10 (k4_pay4 (F := Ideal) i) k4_pay5 (k4_pay6 q) (k4_pay7 k1) (k4_pay8 k0) (k4_pay9 i q k2) w2 w1 w0 (ix2 r d)
      = headRow 0 (by omega) (fun s => k4_pay3 (F := Ideal) i (ix2 r s)) (fun _ => k4_pay4 (F := Ideal) i) (fun s => k4_pay5 (F := Ideal) (ix2 r s))
          q k2 k1 k0 w2 w1 w0 r ⟨d.val, by omega⟩ := by
  pointwise [k4_pay10, k4_pay6, k4_pay7, k4_pay8, k4_pay9, k4_pay1, headRow, Att.rowAtt, Att.score]

theorem both_heads (i : grid4.Coords) (q k2 k1 k0 w2 w1 w0 : FVec Ideal S256x128 .bf16) (r : Fin 256) (d : Fin 128) :
    k4_pay14 (k4_pay3 (F := Ideal) i) (k4_pay4 (F := Ideal) i) k4_pay5
        (k4_pay10 (k4_pay4 (F := Ideal) i) k4_pay5 (k4_pay6 q) (k4_pay7 k1) (k4_pay8 k0) (k4_pay9 i q k2) w2 w1 w0)
        (k4_pay11 (k4_pay1 q)) (k4_pay12 k2) (k4_pay13 k1) k0 w2 w1 w0 (ix2 r d)
      = if d.val < 64 then headRow 0 (by omega) (fun s => k4_pay3 (F := Ideal) i (ix2 r s)) (fun _ => k4_pay4 (F := Ideal) i) (fun s => k4_pay5 (F := Ideal) (ix2 r s)) q k2 k1 k0 w2 w1 w0 r d
        else headRow 64 (by omega) (fun s => k4_pay3 (F := Ideal) i (ix2 r s)) (fun _ => k4_pay4 (F := Ideal) i) (fun s => k4_pay5 (F := Ideal) (ix2 r s)) q k2 k1 k0 w2 w1 w0 r d := by
  pointwise [k4_pay14, k4_pay11, k4_pay12, k4_pay13, k4_pay1]
  by_cases h : d.val < 64
  · rw [dif_pos h, if_pos h]
    exact low_head i q k2 k1 k0 w2 w1 w0 r ⟨d.val, h⟩
  · have e : (⟨64 + (d.val - 64), by omega⟩ : Fin 128) = d := Fin.ext (by show 64 + (d.val - 64) = d.val; omega)
    rw [dif_neg h, if_neg h]
    simp only [headRow, Att.rowAtt, Att.score, e]

theorem idx4 : ∀ t : Fin cfg4.N,
    win4_0.index t = ![(grid4.coords t 1).val, (grid4.coords t 0).val]
    ∧ win4_1.index t = ![(grid4.coords t 1).val - 2, 8 + (grid4.coords t 0).val]
    ∧ win4_2.index t = ![(grid4.coords t 1).val - 1, 8 + (grid4.coords t 0).val]
    ∧ win4_3.index t = ![(grid4.coords t 1).val, 8 + (grid4.coords t 0).val]
    ∧ win4_4.index t = ![(grid4.coords t 1).val - 2, 16 + (grid4.coords t 0).val]
    ∧ win4_5.index t = ![(grid4.coords t 1).val - 1, 16 + (grid4.coords t 0).val]
    ∧ win4_6.index t = ![(grid4.coords t 1).val, 16 + (grid4.coords t 0).val]
    ∧ win4_7.index t = ![(grid4.coords t 1).val, (grid4.coords t 0).val]
    ∧ (grid4.coords t 1).val < 8 ∧ (grid4.coords t 0).val < 8 :=
  (by decide +kernel : ∀ t : Fin grid4.N, _)

theorem read4_0 (c : Dev nD) (t : Fin cfg4.N) (a : Fin 256) (b : Fin 128) :
    iblk4 V c 0 t (ix2 a b) = V c main_v5_0 (ix2 ⟨((grid4.coords t 1).val) * 256 + a.val, by have := idx4 t; omega⟩
      ⟨((grid4.coords t 0).val) * 128 + b.val, by have := idx4 t; omega⟩) :=
  congrArg (V c main_v5_0) (a₁ := ((cfg4.win 0).blk t).view.emb (ix2 a b)) (by
    obtain ⟨h0, h1, h2, h3, h4, h5, h6, h7, hb1, hb0⟩ := idx4 t
    funext x
    fin_cases x <;> apply Fin.ext <;> (blk_simp [idx4 t] <;> rfl))

theorem read4_1 (c : Dev nD) (t : Fin cfg4.N) (a : Fin 256) (b : Fin 128) :
    iblk4 V c 1 t (ix2 a b) = V c main_v5_0 (ix2 ⟨((grid4.coords t 1).val - 2) * 256 + a.val, by have := idx4 t; omega⟩
      ⟨(8 + (grid4.coords t 0).val) * 128 + b.val, by have := idx4 t; omega⟩) :=
  congrArg (V c main_v5_0) (a₁ := ((cfg4.win 1).blk t).view.emb (ix2 a b)) (by
    obtain ⟨h0, h1, h2, h3, h4, h5, h6, h7, hb1, hb0⟩ := idx4 t
    funext x
    fin_cases x <;> apply Fin.ext <;> (blk_simp [idx4 t] <;> rfl))

theorem read4_2 (c : Dev nD) (t : Fin cfg4.N) (a : Fin 256) (b : Fin 128) :
    iblk4 V c 2 t (ix2 a b) = V c main_v5_0 (ix2 ⟨((grid4.coords t 1).val - 1) * 256 + a.val, by have := idx4 t; omega⟩
      ⟨(8 + (grid4.coords t 0).val) * 128 + b.val, by have := idx4 t; omega⟩) :=
  congrArg (V c main_v5_0) (a₁ := ((cfg4.win 2).blk t).view.emb (ix2 a b)) (by
    obtain ⟨h0, h1, h2, h3, h4, h5, h6, h7, hb1, hb0⟩ := idx4 t
    funext x
    fin_cases x <;> apply Fin.ext <;> (blk_simp [idx4 t] <;> rfl))

theorem read4_3 (c : Dev nD) (t : Fin cfg4.N) (a : Fin 256) (b : Fin 128) :
    iblk4 V c 3 t (ix2 a b) = V c main_v5_0 (ix2 ⟨((grid4.coords t 1).val) * 256 + a.val, by have := idx4 t; omega⟩
      ⟨(8 + (grid4.coords t 0).val) * 128 + b.val, by have := idx4 t; omega⟩) :=
  congrArg (V c main_v5_0) (a₁ := ((cfg4.win 3).blk t).view.emb (ix2 a b)) (by
    obtain ⟨h0, h1, h2, h3, h4, h5, h6, h7, hb1, hb0⟩ := idx4 t
    funext x
    fin_cases x <;> apply Fin.ext <;> (blk_simp [idx4 t] <;> rfl))

theorem read4_4 (c : Dev nD) (t : Fin cfg4.N) (a : Fin 256) (b : Fin 128) :
    iblk4 V c 4 t (ix2 a b) = V c main_v5_0 (ix2 ⟨((grid4.coords t 1).val - 2) * 256 + a.val, by have := idx4 t; omega⟩
      ⟨(16 + (grid4.coords t 0).val) * 128 + b.val, by have := idx4 t; omega⟩) :=
  congrArg (V c main_v5_0) (a₁ := ((cfg4.win 4).blk t).view.emb (ix2 a b)) (by
    obtain ⟨h0, h1, h2, h3, h4, h5, h6, h7, hb1, hb0⟩ := idx4 t
    funext x
    fin_cases x <;> apply Fin.ext <;> (blk_simp [idx4 t] <;> rfl))

theorem read4_5 (c : Dev nD) (t : Fin cfg4.N) (a : Fin 256) (b : Fin 128) :
    iblk4 V c 5 t (ix2 a b) = V c main_v5_0 (ix2 ⟨((grid4.coords t 1).val - 1) * 256 + a.val, by have := idx4 t; omega⟩
      ⟨(16 + (grid4.coords t 0).val) * 128 + b.val, by have := idx4 t; omega⟩) :=
  congrArg (V c main_v5_0) (a₁ := ((cfg4.win 5).blk t).view.emb (ix2 a b)) (by
    obtain ⟨h0, h1, h2, h3, h4, h5, h6, h7, hb1, hb0⟩ := idx4 t
    funext x
    fin_cases x <;> apply Fin.ext <;> (blk_simp [idx4 t] <;> rfl))

theorem read4_6 (c : Dev nD) (t : Fin cfg4.N) (a : Fin 256) (b : Fin 128) :
    iblk4 V c 6 t (ix2 a b) = V c main_v5_0 (ix2 ⟨((grid4.coords t 1).val) * 256 + a.val, by have := idx4 t; omega⟩
      ⟨(16 + (grid4.coords t 0).val) * 128 + b.val, by have := idx4 t; omega⟩) :=
  congrArg (V c main_v5_0) (a₁ := ((cfg4.win 6).blk t).view.emb (ix2 a b)) (by
    obtain ⟨h0, h1, h2, h3, h4, h5, h6, h7, hb1, hb0⟩ := idx4 t
    funext x
    fin_cases x <;> apply Fin.ext <;> (blk_simp [idx4 t] <;> rfl))

/-- Local attention of the query in row `r` of block `B`, whose head's columns start at `h`, at output column `C`. -/
def localAt (z : FVec Ideal ⟨2, ![2048, 3072]⟩ .bf16) (B r h C : ℕ) (hB : B < 8) (hr : r < 256) (hh : h < 961) (hC : C < 1024) : EReal :=
  Att.rowAtt (fun s => if 2 ≤ B ∧ r < s.val then (0 : EReal) else ⊥) (fun _ => if 1 ≤ B then (0 : EReal) else ⊥)
    (fun s => if s.val ≤ r then (0 : EReal) else ⊥)
    (fun x => z (ix2 ⟨B * 256 + r, by omega⟩ ⟨h + x.val, by omega⟩))
    (fun s x => z (ix2 ⟨(B - 2) * 256 + s.val, by omega⟩ ⟨1024 + h + x.val, by omega⟩))
    (fun s x => z (ix2 ⟨(B - 1) * 256 + s.val, by omega⟩ ⟨1024 + h + x.val, by omega⟩))
    (fun s x => z (ix2 ⟨B * 256 + s.val, by omega⟩ ⟨1024 + h + x.val, by omega⟩))
    (fun s => z (ix2 ⟨(B - 2) * 256 + s.val, by omega⟩ ⟨2048 + C, by omega⟩))
    (fun s => z (ix2 ⟨(B - 1) * 256 + s.val, by omega⟩ ⟨2048 + C, by omega⟩))
    (fun s => z (ix2 ⟨B * 256 + s.val, by omega⟩ ⟨2048 + C, by omega⟩))

/-- Local attention: query row `i 0`, whose head is the column `i 1 / 64`, over the keys of its own block of 256 rows and the two before. -/
def localAtt (z : FVec Ideal ⟨2, ![2048, 3072]⟩ .bf16) : (⟨2, ![2048, 1024]⟩ : Shape).Idx → EReal := fun i =>
  have hi0 : (i 0).val < 2048 := (i 0).isLt
  have hi1 : (i 1).val < 1024 := (i 1).isLt
  localAt z ((i 0).val / 256) ((i 0).val % 256) ((i 1).val / 64 * 64) (i 1).val (by omega) (by omega) (by omega) hi1

theorem localAtt_at (z : FVec Ideal ⟨2, ![2048, 3072]⟩ .bf16) {B r h C : ℕ} (hB : B < 8) (hr : r < 256) (hh : h < 961) (hC : C < 1024)
    (eh : C / 64 * 64 = h) {p q} : localAtt z (ix2 ⟨B * 256 + r, p⟩ ⟨C, q⟩) = localAt z B r h C hB hr hh hC := by
  have e1 : (B * 256 + r) / 256 = B := by omega
  have e2 : (B * 256 + r) % 256 = r := by omega
  have e (B' r' h' : ℕ) (hB' hr' hh') (a : B' = B) (b : r' = r) (c : h' = h) :
      localAt z B' r' h' C hB' hr' hh' hC = localAt z B r h C hB hr hh hC := by
    subst a b c
    rfl
  exact e ((B * 256 + r) / 256) ((B * 256 + r) % 256) (C / 64 * 64) (by omega) (by omega) (by omega) e1 e2 eh

theorem point4_7 (c : Dev nD) (t : Fin cfg4.N) (y) :
    k4_pay14 (k4_pay3 (F := Ideal) (grid4.coords t)) (k4_pay4 (F := Ideal) (grid4.coords t)) k4_pay5
        (k4_pay10 (k4_pay4 (F := Ideal) (grid4.coords t)) k4_pay5 (k4_pay6 (iblk4 V c 0 t)) (k4_pay7 (iblk4 V c 2 t)) (k4_pay8 (iblk4 V c 3 t))
          (k4_pay9 (grid4.coords t) (iblk4 V c 0 t) (iblk4 V c 1 t)) (iblk4 V c 4 t) (iblk4 V c 5 t) (iblk4 V c 6 t))
        (k4_pay11 (k4_pay1 (iblk4 V c 0 t))) (k4_pay12 (iblk4 V c 1 t)) (k4_pay13 (iblk4 V c 2 t)) (iblk4 V c 3 t) (iblk4 V c 4 t) (iblk4 V c 5 t) (iblk4 V c 6 t) y
      = localAtt (V c main_v5_0) (((cfg4.win 7).blk t).view.emb y) := by
  obtain ⟨r, d, rfl⟩ : ∃ (r : Fin 256) (d : Fin 128), y = ix2 r d := ⟨y 0, y 1, eq_ix2 y⟩
  obtain ⟨h0, h1, h2, h3, h4, h5, h6, h7, hb1, hb0⟩ := idx4 t
  have he : ((cfg4.win 7).blk t).view.emb (ix2 r d)
      = ix2 ⟨(grid4.coords t 1).val * 256 + r.val, by omega⟩ ⟨(grid4.coords t 0).val * 128 + d.val, by omega⟩ := by
    funext a
    fin_cases a <;> apply Fin.ext <;> (blk_simp [idx4 t] <;> rfl)
  rw [he, both_heads]
  split_ifs with hd
  · rw [localAtt_at (V c main_v5_0) (h := (grid4.coords t 0).val * 128) hb1 r.isLt (by omega) (by omega) (by omega)]
    refine Att.rowAtt_congr (fun s => bias_far _ _ _) (fun s => bias_mid _) (fun s => bias_near _ _) (fun x => ?_) (fun s x => ?_) (fun s x => ?_) (fun s x => ?_) (fun s => ?_) (fun s => ?_) (fun s => ?_)
    · exact (read4_0 V c t _ _).trans (congrArg (V c main_v5_0) (Att.ix2_eq rfl (by show _ = _; simp only []; omega)))
    · exact (read4_1 V c t _ _).trans (congrArg (V c main_v5_0) (Att.ix2_eq rfl (by show _ = _; simp only []; omega)))
    · exact (read4_2 V c t _ _).trans (congrArg (V c main_v5_0) (Att.ix2_eq rfl (by show _ = _; simp only []; omega)))
    · exact (read4_3 V c t _ _).trans (congrArg (V c main_v5_0) (Att.ix2_eq rfl (by show _ = _; simp only []; omega)))
    · exact (read4_4 V c t _ _).trans (congrArg (V c main_v5_0) (Att.ix2_eq rfl (by show _ = _; simp only []; omega)))
    · exact (read4_5 V c t _ _).trans (congrArg (V c main_v5_0) (Att.ix2_eq rfl (by show _ = _; simp only []; omega)))
    · exact (read4_6 V c t _ _).trans (congrArg (V c main_v5_0) (Att.ix2_eq rfl (by show _ = _; simp only []; omega)))
  · rw [localAtt_at (V c main_v5_0) (h := (grid4.coords t 0).val * 128 + 64) hb1 r.isLt (by omega) (by omega) (by omega)]
    refine Att.rowAtt_congr (fun s => bias_far _ _ _) (fun s => bias_mid _) (fun s => bias_near _ _) (fun x => ?_) (fun s x => ?_) (fun s x => ?_) (fun s x => ?_) (fun s => ?_) (fun s => ?_) (fun s => ?_)
    · exact (read4_0 V c t _ _).trans (congrArg (V c main_v5_0) (Att.ix2_eq rfl (by show _ = _; simp only []; omega)))
    · exact (read4_1 V c t _ _).trans (congrArg (V c main_v5_0) (Att.ix2_eq rfl (by show _ = _; simp only []; omega)))
    · exact (read4_2 V c t _ _).trans (congrArg (V c main_v5_0) (Att.ix2_eq rfl (by show _ = _; simp only []; omega)))
    · exact (read4_3 V c t _ _).trans (congrArg (V c main_v5_0) (Att.ix2_eq rfl (by show _ = _; simp only []; omega)))
    · exact (read4_4 V c t _ _).trans (congrArg (V c main_v5_0) (Att.ix2_eq rfl (by show _ = _; simp only []; omega)))
    · exact (read4_5 V c t _ _).trans (congrArg (V c main_v5_0) (Att.ix2_eq rfl (by show _ = _; simp only []; omega)))
    · exact (read4_6 V c t _ _).trans (congrArg (V c main_v5_0) (Att.ix2_eq rfl (by show _ = _; simp only []; omega)))

theorem arr4_7 (c : Dev nD) : (dat4 V c).arrAt 7 cfg4.N = localAtt (V c main_v5_0) := by
  refine (dat4 V c).arrAt_eq_of_covers 7 _ (by decide +kernel) fun t _ y => ?_
  blk_simp
  rw [after4_7]; frame_out
  exact point4_7 V c t y

end Cert.KernelIdeal.Value

end
-- ==== Proof.K5.lean ====
/- The attention calls over the pooled keys and over the selected keys. -/
module

public import proofs.«01_k».proof.Proof.K0
public import proofs.«01_k».proof.Proof.Words
public import proofs.«01_k».proof.Proof.Att
public import proofs.«01_k».proof.Proof.Gen.KernelIdeal.Frame.Region5
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem c_mask (i : grid5.Coords) (r : Fin 512) (s : Fin 192) :
    k5_pay5 i (ix2 r s) = BitVec.ofBool (decide ((s.val + 1) * 8 ≤ (i 1).val * 512 + r.val)) := by
  have hi : (i 1).val < 4 := (i 1).isLt
  have hs := s.isLt
  have hr := r.isLt
  pointwise [k5_pay5]
  have e : IntOp.muli (IntOp.addi (BitVec.ofNat 32 s.val) 1#32) 8#32 = BitVec.ofNat 32 ((s.val + 1) * 8) := by
    have h := Words.block_word (s.val + 1) 0 8
    simpa [IntOp.muli, IntOp.addi, BitVec.ofNat_add, BitVec.ofNat_mul] using h
  have e' : IntOp.addi (Scalar.muli (BitVec.ofNat 32 (i 1).val) 512#32) (BitVec.ofNat 32 r.val) = BitVec.ofNat 32 ((i 1).val * 512 + r.val) :=
    Words.block_word _ _ _
  rw [e, e', WordCmp.cmpi_sge_ofNat (by omega) (by omega)]

/-- The rows from a selected key's position on see it. -/
def selMask (p : FVec Ideal S1x64 .f32) (n : ℕ) (s : Fin 64) : Prop := p (ix2 0 s) ≤ ((n : ℝ) : EReal)

instance (p : FVec Ideal S1x64 .f32) (n : ℕ) : DecidablePred (selMask p n) := fun s => inferInstanceAs (Decidable (p (ix2 0 s) ≤ ((n : ℝ) : EReal)))

theorem t_mask (i : grid5.Coords) (p : FVec Ideal S1x64 .f32) (r : Fin 512) (s : Fin 64) :
    k5_pay6 (F := Ideal) i p (ix2 r s) = BitVec.ofBool (decide (selMask p ((i 1).val * 512 + r.val) s)) := by
  have hi : (i 1).val < 4 := (i 1).isLt
  have hr := r.isLt
  pointwise [k5_pay6]
  have e' : IntOp.addi (Scalar.muli (BitVec.ofNat 32 (i 1).val) 512#32) (BitVec.ofNat 32 r.val) = BitVec.ofNat 32 ((i 1).val * 512 + r.val) :=
    Words.block_word _ _ _
  rw [e', Words.sitofp_nat _ (by omega)]
  rfl

theorem c_low (i : grid5.Coords) (q : FVec Ideal S512x128 .bf16) (k w : FVec Ideal S192x128 .bf16) (r : Fin 512) (d : Fin 64) :
    k5_pay9 (F := Ideal) (k5_pay7 i q k) (k5_pay8 w) (ix2 r d)
      = Att.maxAtt (fun s : Fin 192 => (s.val + 1) * 8 ≤ (i 1).val * 512 + r.val) (fun x => q (ix2 r ⟨x.val, by omega⟩)) (fun s x => k (ix2 s ⟨x.val, by omega⟩))
          (fun s => w (ix2 s ⟨d.val, by omega⟩)) := by
  pointwise [k5_pay9, k5_pay7, k5_pay8, k5_pay3]
  simp only [c_mask, Words.select_bit, Att.maxAtt, Att.score]

theorem pay4_eq (q : FVec Ideal S512x128 .bf16) : k5_pay4 (F := Ideal) q = q := by
  funext i
  pointwise [k5_pay4]

theorem t_low (M : IVec S512x64 1) (m : Fin 64 → Prop) [DecidablePred m] (q : FVec Ideal S512x128 .bf16) (k w : FVec Ideal S64x128 .bf16)
    (r : Fin 512) (d : Fin 64) (hM : ∀ s, M (ix2 r s) = BitVec.ofBool (decide (m s))) :
    k5_pay10 (F := Ideal) q M k w (ix2 r d)
      = Att.maxAtt m (fun x => q (ix2 r ⟨x.val, by omega⟩)) (fun s x => k (ix2 s ⟨x.val, by omega⟩))
          (fun s => w (ix2 s ⟨d.val, by omega⟩)) := by
  pointwise [k5_pay10]
  simp only [hM, Words.select_bit, Att.maxAtt, Att.score]

theorem c_both (i : grid5.Coords) (q : FVec Ideal S512x128 .bf16) (k w : FVec Ideal S192x128 .bf16) (r : Fin 512) (d : Fin 128) :
    k5_pay1 (F := Ideal) (k5_pay9 (k5_pay7 i q k) (k5_pay8 w)) (k5_pay11 (k5_pay3 q) (k5_pay5 i) k) w (ix2 r d)
      = Att.maxAtt (fun s : Fin 192 => (s.val + 1) * 8 ≤ (i 1).val * 512 + r.val) (fun x => q (ix2 r ⟨d.val / 64 * 64 + x.val, by omega⟩))
          (fun s x => k (ix2 s ⟨d.val / 64 * 64 + x.val, by omega⟩)) (fun s => w (ix2 s d)) := by
  pointwise [k5_pay1, k5_pay11, k5_pay3]
  by_cases h : d.val < 64
  · rw [dif_pos h]
    refine (c_low i q k w r ⟨d.val, h⟩).trans (Att.maxAtt_congr (fun j => Iff.rfl) (fun x => congrArg q (Att.ix2_eq rfl ?_))
      (fun j x => congrArg k (Att.ix2_eq rfl ?_)) (fun j => rfl)) <;> simp only [] <;> omega
  · rw [dif_neg h]
    have e : (⟨64 + (d.val - 64), by omega⟩ : Fin 128) = d := Fin.ext (by show 64 + (d.val - 64) = d.val; omega)
    have e' (x : Fin 64) : (⟨64 + x.val, by omega⟩ : Fin 128) = ⟨d.val / 64 * 64 + x.val, by omega⟩ := Fin.ext (by show 64 + x.val = _; simp only []; omega)
    simp only [c_mask, Words.select_bit, Att.maxAtt, Att.score, e, e']

theorem t_both (M : IVec S512x64 1) (m : Fin 64 → Prop) [DecidablePred m] (q : FVec Ideal S512x128 .bf16) (k w : FVec Ideal S64x128 .bf16)
    (r : Fin 512) (d : Fin 128) (hM : ∀ s, M (ix2 r s) = BitVec.ofBool (decide (m s))) :
    k5_pay2 (F := Ideal) q M (k5_pay10 q M k w) k w (ix2 r d)
      = Att.maxAtt m (fun x => q (ix2 r ⟨d.val / 64 * 64 + x.val, by omega⟩))
          (fun s x => k (ix2 s ⟨d.val / 64 * 64 + x.val, by omega⟩)) (fun s => w (ix2 s d)) := by
  pointwise [k5_pay2]
  by_cases h : d.val < 64
  · rw [dif_pos h]
    refine (t_low M m q k w r ⟨d.val, h⟩ hM).trans (Att.maxAtt_congr (fun j => Iff.rfl) (fun x => congrArg q (Att.ix2_eq rfl ?_))
      (fun j x => congrArg k (Att.ix2_eq rfl ?_)) (fun j => rfl)) <;> simp only [] <;> omega
  · rw [dif_neg h]
    have e : (⟨64 + (d.val - 64), by omega⟩ : Fin 128) = d := Fin.ext (by show 64 + (d.val - 64) = d.val; omega)
    have e' (x : Fin 64) : (⟨64 + x.val, by omega⟩ : Fin 128) = ⟨d.val / 64 * 64 + x.val, by omega⟩ := Fin.ext (by show 64 + x.val = _; simp only []; omega)
    simp only [hM, Words.select_bit, Att.maxAtt, Att.score, e, e']

theorem idx5 : ∀ t : Fin cfg5.N,
    win5_0.index t = ![(grid5.coords t 1).val, (grid5.coords t 0).val]
    ∧ win5_1.index t = ![(grid5.coords t 1).val, (grid5.coords t 0).val]
    ∧ win5_2.index t = ![0, (grid5.coords t 0).val]
    ∧ win5_3.index t = ![0, 8 + (grid5.coords t 0).val]
    ∧ win5_4.index t = ![0, (grid5.coords t 0).val]
    ∧ win5_5.index t = ![0, 8 + (grid5.coords t 0).val]
    ∧ win5_6.index t = ![0, 0]
    ∧ win5_7.index t = ![(grid5.coords t 1).val, (grid5.coords t 0).val]
    ∧ win5_8.index t = ![(grid5.coords t 1).val, (grid5.coords t 0).val]
    ∧ (grid5.coords t 1).val < 4 ∧ (grid5.coords t 0).val < 8 :=
  (by decide +kernel : ∀ t : Fin grid5.N, _)

theorem read5_0 (c : Dev nD) (t : Fin cfg5.N) (a : Fin 512) (b : Fin 128) :
    iblk5 V c 0 t (ix2 a b) = V c main_v5_1 (ix2 ⟨(grid5.coords t 1).val * 512 + a.val, by have := idx5 t; omega⟩
      ⟨((grid5.coords t 0).val) * 128 + b.val, by have := idx5 t; omega⟩) :=
  congrArg (V c main_v5_1) (a₁ := ((cfg5.win 0).blk t).view.emb (ix2 a b)) (by
    obtain ⟨h0, h1, h2, h3, h4, h5, h6, h7, h8, hb1, hb0⟩ := idx5 t
    funext x
    fin_cases x <;> apply Fin.ext <;> (blk_simp [idx5 t] <;> rfl))

theorem read5_1 (c : Dev nD) (t : Fin cfg5.N) (a : Fin 512) (b : Fin 128) :
    iblk5 V c 1 t (ix2 a b) = V c main_v5_2 (ix2 ⟨(grid5.coords t 1).val * 512 + a.val, by have := idx5 t; omega⟩
      ⟨((grid5.coords t 0).val) * 128 + b.val, by have := idx5 t; omega⟩) :=
  congrArg (V c main_v5_2) (a₁ := ((cfg5.win 1).blk t).view.emb (ix2 a b)) (by
    obtain ⟨h0, h1, h2, h3, h4, h5, h6, h7, h8, hb1, hb0⟩ := idx5 t
    funext x
    fin_cases x <;> apply Fin.ext <;> (blk_simp [idx5 t] <;> rfl))

theorem read5_2 (c : Dev nD) (t : Fin cfg5.N) (a : Fin 192) (b : Fin 128) :
    iblk5 V c 2 t (ix2 a b) = V c main_v20 (ix2 ⟨a.val, by have := idx5 t; omega⟩
      ⟨((grid5.coords t 0).val) * 128 + b.val, by have := idx5 t; omega⟩) :=
  congrArg (V c main_v20) (a₁ := ((cfg5.win 2).blk t).view.emb (ix2 a b)) (by
    obtain ⟨h0, h1, h2, h3, h4, h5, h6, h7, h8, hb1, hb0⟩ := idx5 t
    funext x
    fin_cases x <;> apply Fin.ext <;> (blk_simp [idx5 t] <;> rfl))

theorem read5_3 (c : Dev nD) (t : Fin cfg5.N) (a : Fin 192) (b : Fin 128) :
    iblk5 V c 3 t (ix2 a b) = V c main_v20 (ix2 ⟨a.val, by have := idx5 t; omega⟩
      ⟨(8 + (grid5.coords t 0).val) * 128 + b.val, by have := idx5 t; omega⟩) :=
  congrArg (V c main_v20) (a₁ := ((cfg5.win 3).blk t).view.emb (ix2 a b)) (by
    obtain ⟨h0, h1, h2, h3, h4, h5, h6, h7, h8, hb1, hb0⟩ := idx5 t
    funext x
    fin_cases x <;> apply Fin.ext <;> (blk_simp [idx5 t] <;> rfl))

theorem read5_4 (c : Dev nD) (t : Fin cfg5.N) (a : Fin 64) (b : Fin 128) :
    iblk5 V c 4 t (ix2 a b) = V c main_v27_0 (ix2 ⟨a.val, by have := idx5 t; omega⟩
      ⟨((grid5.coords t 0).val) * 128 + b.val, by have := idx5 t; omega⟩) :=
  congrArg (V c main_v27_0) (a₁ := ((cfg5.win 4).blk t).view.emb (ix2 a b)) (by
    obtain ⟨h0, h1, h2, h3, h4, h5, h6, h7, h8, hb1, hb0⟩ := idx5 t
    funext x
    fin_cases x <;> apply Fin.ext <;> (blk_simp [idx5 t] <;> rfl))

theorem read5_5 (c : Dev nD) (t : Fin cfg5.N) (a : Fin 64) (b : Fin 128) :
    iblk5 V c 5 t (ix2 a b) = V c main_v27_0 (ix2 ⟨a.val, by have := idx5 t; omega⟩
      ⟨(8 + (grid5.coords t 0).val) * 128 + b.val, by have := idx5 t; omega⟩) :=
  congrArg (V c main_v27_0) (a₁ := ((cfg5.win 5).blk t).view.emb (ix2 a b)) (by
    obtain ⟨h0, h1, h2, h3, h4, h5, h6, h7, h8, hb1, hb0⟩ := idx5 t
    funext x
    fin_cases x <;> apply Fin.ext <;> (blk_simp [idx5 t] <;> rfl))

theorem read5_6 (c : Dev nD) (t : Fin cfg5.N) (b : Fin 64) : iblk5 V c 6 t (ix2 0 b) = V c main_v29 (ix2 0 b) :=
  congrArg (V c main_v29) (a₁ := ((cfg5.win 6).blk t).view.emb (ix2 0 b)) (by
    obtain ⟨h0, h1, h2, h3, h4, h5, h6, h7, h8, hb1, hb0⟩ := idx5 t
    funext x
    fin_cases x <;> apply Fin.ext <;> (blk_simp [idx5 t] <;> rfl))

/-- Attention over the pooled keys: key `s` is seen by the rows from `8 (s + 1)` on. -/
def poolAtt (q : FVec Ideal ⟨2, ![2048, 1024]⟩ .bf16) (kv : FVec Ideal ⟨2, ![192, 2048]⟩ .bf16) : (⟨2, ![2048, 1024]⟩ : Shape).Idx → EReal := fun i =>
  have hi1 : (i 1).val < 1024 := (i 1).isLt
  Att.maxAtt (fun s : Fin 192 => (s.val + 1) * 8 ≤ (i 0).val) (fun x => q (ix2 (i 0) ⟨(i 1).val / 64 * 64 + x.val, by omega⟩))
    (fun s x => kv (ix2 s ⟨(i 1).val / 64 * 64 + x.val, by omega⟩)) (fun s => kv (ix2 s ⟨1024 + (i 1).val, by omega⟩))

/-- Attention over the selected keys: key `s` is seen by the rows from its position on. -/
def selAtt (p : FVec Ideal ⟨2, ![1, 64]⟩ .f32) (q : FVec Ideal ⟨2, ![2048, 1024]⟩ .bf16) (kv : FVec Ideal ⟨2, ![64, 2048]⟩ .bf16) :
    (⟨2, ![2048, 1024]⟩ : Shape).Idx → EReal := fun i =>
  have hi1 : (i 1).val < 1024 := (i 1).isLt
  Att.maxAtt (selMask p (i 0).val) (fun x => q (ix2 (i 0) ⟨(i 1).val / 64 * 64 + x.val, by omega⟩))
    (fun s x => kv (ix2 s ⟨(i 1).val / 64 * 64 + x.val, by omega⟩)) (fun s => kv (ix2 s ⟨1024 + (i 1).val, by omega⟩))

theorem point5_7 (c : Dev nD) (t : Fin cfg5.N) (y) :
    k5_pay1 (F := Ideal) (k5_pay9 (k5_pay7 (grid5.coords t) (iblk5 V c 0 t) (iblk5 V c 2 t)) (k5_pay8 (iblk5 V c 3 t))) (k5_pay11 (k5_pay3 (iblk5 V c 0 t)) (k5_pay5 (grid5.coords t)) (iblk5 V c 2 t)) (iblk5 V c 3 t) y
      = poolAtt (V c main_v5_1) (V c main_v20) (((cfg5.win 7).blk t).view.emb y) := by
  obtain ⟨r, d, rfl⟩ : ∃ (r : Fin 512) (d : Fin 128), y = ix2 r d := ⟨y 0, y 1, eq_ix2 y⟩
  obtain ⟨h0, h1, h2, h3, h4, h5, h6, h7, h8, hb1, hb0⟩ := idx5 t
  have he : ((cfg5.win 7).blk t).view.emb (ix2 r d)
      = ix2 ⟨(grid5.coords t 1).val * 512 + r.val, by omega⟩ ⟨(grid5.coords t 0).val * 128 + d.val, by omega⟩ := by
    funext a
    fin_cases a <;> apply Fin.ext <;> (blk_simp [idx5 t] <;> rfl)
  rw [he, c_both]
  refine Att.maxAtt_congr (fun j => Iff.rfl) (fun x => ?_) (fun j x => ?_) (fun j => ?_)
  · exact (read5_0 V c t _ _).trans (congrArg (V c main_v5_1) (Att.ix2_eq rfl (by
      show (grid5.coords t 0).val * 128 + (d.val / 64 * 64 + x.val) = ((grid5.coords t 0).val * 128 + d.val) / 64 * 64 + x.val; omega)))
  · exact (read5_2 V c t _ _).trans (congrArg (V c main_v20) (Att.ix2_eq rfl (by
      show (grid5.coords t 0).val * 128 + (d.val / 64 * 64 + x.val) = ((grid5.coords t 0).val * 128 + d.val) / 64 * 64 + x.val; omega)))
  · exact (read5_3 V c t _ _).trans (congrArg (V c main_v20) (Att.ix2_eq rfl (by
      show (8 + (grid5.coords t 0).val) * 128 + d.val = 1024 + ((grid5.coords t 0).val * 128 + d.val); omega)))

theorem arr5_7 (c : Dev nD) : (dat5 V c).arrAt 7 cfg5.N = poolAtt (V c main_v5_1) (V c main_v20) := by
  refine (dat5 V c).arrAt_eq_of_covers 7 _ (by decide +kernel) fun t _ y => ?_
  blk_simp
  rw [after5_7]; frame_out
  exact point5_7 V c t y

theorem pay12_eq (i : grid5.Coords) (x0 x1 : Vec Ideal S512x128 .bf16) (x2 x3 : Vec Ideal S192x128 .bf16) (x4 x5 : Vec Ideal S64x128 .bf16) (x6 : Vec Ideal S1x64 .f32) :
    k5_pay12 i x0 x1 x2 x3 x4 x5 x6 = k5_pay4 x1 :=
  congrArg k5_pay4 (View.ld_unit_lit _ _ (by decide))

theorem pay13_eq (i : grid5.Coords) (x0 x1 : Vec Ideal S512x128 .bf16) (x2 x3 : Vec Ideal S192x128 .bf16) (x4 x5 : Vec Ideal S64x128 .bf16) (x6 : Vec Ideal S1x64 .f32) :
    k5_pay13 i x0 x1 x2 x3 x4 x5 x6 = k5_pay6 i x6 :=
  congrArg (k5_pay6 i) (View.ld_unit_lit _ _ (by decide))

theorem point5_8 (c : Dev nD) (t : Fin cfg5.N) (y) :
    k5_pay2 (F := Ideal) (k5_pay4 (iblk5 V c 1 t)) (k5_pay6 (F := Ideal) (grid5.coords t) (iblk5 V c 6 t)) (k5_pay10 (k5_pay4 (iblk5 V c 1 t)) (k5_pay6 (F := Ideal) (grid5.coords t) (iblk5 V c 6 t)) (iblk5 V c 4 t) (iblk5 V c 5 t)) (iblk5 V c 4 t) (iblk5 V c 5 t) y
      = selAtt (V c main_v29) (V c main_v5_2) (V c main_v27_0) (((cfg5.win 8).blk t).view.emb y) := by
  obtain ⟨r, d, rfl⟩ : ∃ (r : Fin 512) (d : Fin 128), y = ix2 r d := ⟨y 0, y 1, eq_ix2 y⟩
  obtain ⟨h0, h1, h2, h3, h4, h5, h6, h7, h8, hb1, hb0⟩ := idx5 t
  have he : ((cfg5.win 8).blk t).view.emb (ix2 r d)
      = ix2 ⟨(grid5.coords t 1).val * 512 + r.val, by omega⟩ ⟨(grid5.coords t 0).val * 128 + d.val, by omega⟩ := by
    funext a
    fin_cases a <;> apply Fin.ext <;> (blk_simp [idx5 t] <;> rfl)
  rw [he, pay4_eq]
  refine (t_both _ (selMask (iblk5 V c 6 t) ((grid5.coords t 1).val * 512 + r.val)) _ _ _ r d (t_mask _ _ _)).trans ?_
  refine Att.maxAtt_congr (fun j => (by unfold selMask; rw [read5_6]; rfl)) (fun x => ?_) (fun j x => ?_) (fun j => ?_)
  · exact (read5_1 V c t _ _).trans (congrArg (V c main_v5_2) (Att.ix2_eq rfl (by
      show (grid5.coords t 0).val * 128 + (d.val / 64 * 64 + x.val) = ((grid5.coords t 0).val * 128 + d.val) / 64 * 64 + x.val; omega)))
  · exact (read5_4 V c t _ _).trans (congrArg (V c main_v27_0) (Att.ix2_eq rfl (by
      show (grid5.coords t 0).val * 128 + (d.val / 64 * 64 + x.val) = ((grid5.coords t 0).val * 128 + d.val) / 64 * 64 + x.val; omega)))
  · exact (read5_5 V c t _ _).trans (congrArg (V c main_v27_0) (Att.ix2_eq rfl (by
      show (8 + (grid5.coords t 0).val) * 128 + d.val = 1024 + ((grid5.coords t 0).val * 128 + d.val); omega)))

theorem arr5_8 (c : Dev nD) : (dat5 V c).arrAt 8 cfg5.N = selAtt (V c main_v29) (V c main_v5_2) (V c main_v27_0) := by
  refine (dat5 V c).arrAt_eq_of_covers 8 _ (by decide +kernel) fun t _ y => ?_
  blk_simp
  rw [after5_8]; frame_out
  rw [pay12_eq, pay13_eq]
  exact point5_8 V c t y

end Cert.KernelIdeal.Value
-- ==== Proof.KReal.lean ====
/- What the kernel's calls compute, on real arguments. -/
module

public import proofs.«01_k».proof.Proof.Spec
public import proofs.«01_k».proof.Proof.KHost
public import proofs.«01_k».proof.Proof.K1
public import proofs.«01_k».proof.Proof.K2
public import proofs.«01_k».proof.Proof.K3
public import proofs.«01_k».proof.Proof.K4
public import proofs.«01_k».proof.Proof.K5

@[expose] public section

set_option maxRecDepth 16384

noncomputable section

namespace Cert.KernelIdeal.Value

open Idealize.ShloMosaic Cert.Spec Cert.Reals

theorem affine_real {m k n : ℕ} (X : Mat m k) (W : Mat k n) (b : Fin n → ℝ) :
    affine (R2 X) (R2 W) (row (R1 b)) = R2 (lin X W b) := by
  funext i
  show (∑ t : Fin k, (X (i 0) t : EReal) * (W t (i 1) : EReal)) + (b (i 1) : EReal) = ((∑ t, X (i 0) t * W t (i 1) + b (i 1) : ℝ) : EReal)
  rw [coe_dot, EReal.coe_add]

theorem flat_real (X : Mat 2048 1024) : flat (R3 X) = R2 X := rfl

/-- Two real matrices side by side. -/
def pair {n : ℕ} (A B : Mat n 1024) : Mat n 2048 := fun i j =>
  if h : j.val < 1024 then A i ⟨j.val, h⟩ else B i ⟨j.val - 1024, by have := j.isLt; omega⟩

theorem pair_left {n : ℕ} (A B : Mat n 1024) (i : Fin n) (C : Fin 1024) (j : Fin 2048) (h : j.val = C.val) : pair A B i j = A i C := by
  have hC := C.isLt
  unfold pair
  rw [dif_pos (by omega)]
  congr 1
  exact Fin.ext h

theorem pair_right {n : ℕ} (A B : Mat n 1024) (i : Fin n) (C : Fin 1024) (j : Fin 2048) (h : j.val = 1024 + C.val) : pair A B i j = B i C := by
  have hC := C.isLt
  unfold pair
  rw [dif_neg (by omega)]
  congr 1
  exact Fin.ext (by show j.val - 1024 = C.val; omega)

theorem affine_pair {m : ℕ} (X : Mat m 1024) (W W' : Mat 1024 1024) (b b' : Fin 1024 → ℝ) :
    affine (R2 X) (beside (R2 W) (R2 W')) (besideRow (R1 b) (R1 b')) = R2 (pair (lin X W b) (lin X W' b')) := by
  funext i
  have hi : (i 1).val < 2048 := (i 1).isLt
  have hl (C : Fin 1024) : ((∑ t : Fin 1024, (X (i 0) t : EReal) * (W t C : EReal)) + (b C : EReal)) = ((lin X W b (i 0) C : ℝ) : EReal) := by
    rw [coe_dot, ← EReal.coe_add]; rfl
  have hr (C : Fin 1024) : ((∑ t : Fin 1024, (X (i 0) t : EReal) * (W' t C : EReal)) + (b' C : EReal)) = ((lin X W' b' (i 0) C : ℝ) : EReal) := by
    rw [coe_dot, ← EReal.coe_add]; rfl
  by_cases h : (i 1).val < 1024
  · have e1 : ∀ t : Fin 1024, beside (R2 W) (R2 W') (ix2 t (i 1)) = (W t ⟨(i 1).val, h⟩ : EReal) := fun t => dif_pos h
    have e2 : besideRow (R1 b) (R1 b') (ix2 0 (i 1)) = (b ⟨(i 1).val, h⟩ : EReal) := dif_pos h
    have e3 : R2 (pair (lin X W b) (lin X W' b')) i = ((lin X W b (i 0) ⟨(i 1).val, h⟩ : ℝ) : EReal) :=
      congrArg _ (pair_left _ _ (i 0) ⟨(i 1).val, h⟩ (i 1) rfl)
    rw [e3, ← hl]
    unfold affine
    rw [e2]
    simp only [e1]
    rfl
  · have e1 : ∀ t : Fin 1024, beside (R2 W) (R2 W') (ix2 t (i 1)) = (W' t ⟨(i 1).val - 1024, by omega⟩ : EReal) := fun t => dif_neg h
    have e2 : besideRow (R1 b) (R1 b') (ix2 0 (i 1)) = (b' ⟨(i 1).val - 1024, by omega⟩ : EReal) := dif_neg h
    have e3 : R2 (pair (lin X W b) (lin X W' b')) i = ((lin X W' b' (i 0) ⟨(i 1).val - 1024, by omega⟩ : ℝ) : EReal) :=
      congrArg _ (pair_right _ _ (i 0) ⟨(i 1).val - 1024, by omega⟩ (i 1) (by show (i 1).val = 1024 + ((i 1).val - 1024); omega))
    rw [e3, ← hr]
    unfold affine
    rw [e2]
    simp only [e1]
    rfl

/-- The pooling product is the mean of eight rows. -/
theorem pool_real (X : Mat 2048 1024) : mprod poolMat (top (R2 X)) = R2 (comp X) := by
  funext i
  have hi : (i 0).val < 192 := (i 0).isLt
  let g (t : Fin 1536) : ℝ := X ⟨t.val, by have := t.isLt; omega⟩ (i 1)
  have e (t : Fin 1536) : poolMat (ix2 (i 0) t) * top (R2 X) (ix2 t (i 1)) = (((if t.val / 8 = (i 0).val then g t / 8 else 0 : ℝ)) : EReal) := by
    show ((if t.val / 8 = (i 0).val then (1 : EReal) else 0) * Ideal.ofBits .f32 0x3E000000#32) * (g t : EReal) = _
    rw [bits_eighth_f32]
    split_ifs
    · rw [one_mul, ← EReal.coe_mul]
      congr 1
      ring
    · rw [zero_mul, zero_mul]
      rfl
  unfold mprod
  simp only [e]
  rw [coe_sum]
  refine congrArg _ ?_
  show _ = (∑ e : Fin 8, X ⟨(i 0).val * 8 + e.val, _⟩ (i 1)) / 8
  rw [Finset.sum_div]
  refine Eq.trans (Fintype.sum_equiv (finProdFinEquiv (m := 192) (n := 8)) (fun ce : Fin 192 × Fin 8 =>
    if ce.1.val = (i 0).val then X ⟨ce.1.val * 8 + ce.2.val, by have := ce.1.isLt; have := ce.2.isLt; omega⟩ (i 1) / 8 else 0) _ fun ce => ?_).symm ?_
  · have h1 := ce.1.isLt
    have h2 := ce.2.isLt
    have hv : ((finProdFinEquiv ce : Fin (192 * 8))).val = ce.2.val + 8 * ce.1.val := rfl
    have hd : (ce.2.val + 8 * ce.1.val) / 8 = ce.1.val := by omega
    rw [hv, hd]
    refine if_congr Iff.rfl ?_ rfl
    show X _ (i 1) / 8 = X _ (i 1) / 8
    congr 3
    show ce.1.val * 8 + ce.2.val = ce.2.val + 8 * ce.1.val
    omega
  · rw [Fintype.sum_prod_type]
    rw [Finset.sum_eq_single (⟨(i 0).val, hi⟩ : Fin 192)]
    · exact Finset.sum_congr rfl fun e _ => if_pos rfl
    · intro c _ hc
      refine Finset.sum_eq_zero fun e _ => if_neg fun h => hc (Fin.ext h)
    · intro h
      exact absurd (Finset.mem_univ _) h

/-- The counted rank. -/
theorem rank_real (y : Fin 2048 → ℝ) :
    rankCol (R2 fun i _ => y i) (turn (R2 fun i (_ : Fin 1) => y i)) = R2 fun i (_ : Fin 1) => (Order.rank y i : ℝ) := by
  classical
  funext i
  have e (s : Fin 2048) : ((if ((y (i 0) : ℝ) : EReal) < ((y s : ℝ) : EReal) then (1 : EReal) else 0)
      + (if ((y s : ℝ) : EReal) = ((y (i 0) : ℝ) : EReal) ∧ s.val < (i 0).val then (1 : EReal) else 0))
      = (((if Order.Lex y s (i 0) then 1 else 0 : ℝ)) : EReal) := by
    have hL : Order.Lex y s (i 0) ↔ (y (i 0) < y s ∨ (y s = y (i 0) ∧ s < i 0)) := Iff.rfl
    by_cases h : y (i 0) < y s
    · have h' : ¬ (y s = y (i 0)) := h.ne'
      simp [hL, h, h']
    · by_cases h2 : y s = y (i 0) ∧ s.val < (i 0).val
      · have : Order.Lex y s (i 0) := Or.inr ⟨h2.1, h2.2⟩
        rw [if_neg (by rwa [EReal.coe_lt_coe_iff]), if_pos ⟨congrArg _ h2.1, h2.2⟩, if_pos this, zero_add]
        rfl
      · have : ¬ Order.Lex y s (i 0) := fun hl => hl.elim h fun hr => h2 ⟨hr.1, hr.2⟩
        rw [if_neg (by rwa [EReal.coe_lt_coe_iff]), if_neg (fun hh => h2 ⟨EReal.coe_injective hh.1, hh.2⟩), if_neg this, zero_add]
        rfl
  refine (Finset.sum_congr rfl fun s _ => e s).trans ?_
  rw [coe_sum]
  refine congrArg _ ?_
  rw [Finset.sum_boole]
  unfold Order.rank
  congr

theorem hit_real (y : Fin 2048 → ℝ) (p : Fin 64) (s : Fin 2048) :
    hit (turn (R2 fun i (_ : Fin 1) => (Order.rank y i : ℝ))) p s = if s = sel y p then 1 else 0 := by
  refine if_congr ?_ rfl rfl
  show ((Order.rank y s : ℝ) : EReal) = ((p.val : ℝ) : EReal) ↔ _
  rw [EReal.coe_eq_coe_iff, Nat.cast_inj]
  exact Order.rank_eq_iff y s ⟨p.val, by have := p.isLt; omega⟩

theorem sum_hit (y : Fin 2048 → ℝ) (p : Fin 64) (g : Fin 2048 → EReal) :
    ∑ s, hit (turn (R2 fun i (_ : Fin 1) => (Order.rank y i : ℝ))) p s * g s = g (sel y p) := by
  simp only [hit_real, ite_mul, one_mul, zero_mul]
  exact (Finset.sum_ite_eq' _ _ _).trans (if_pos (Finset.mem_univ _))

theorem slotPos_real (y : Fin 2048 → ℝ) :
    slotPos (turn (R2 fun i (_ : Fin 1) => (Order.rank y i : ℝ))) = R2 fun p (_ : Fin 1) => ((sel y p).val : ℝ) := by
  funext i
  exact sum_hit y (i 0) fun s => ((s.val : ℝ) : EReal)

theorem slotRow_real (X : Mat 2048 1024) (y : Fin 2048 → ℝ) :
    slotRow (turn (R2 fun i (_ : Fin 1) => (Order.rank y i : ℝ))) (R2 X) = R2 (picked X y) := by
  funext i
  exact sum_hit y (i 0) fun s => ((X s (i 1) : ℝ) : EReal)

/-- The windowed attention's call. -/
theorem local_real (Z : Mat 2048 3072) : localAtt (R2 Z) = R2 (localOut Z) := by
  funext i
  have hi0 : (i 0).val < 2048 := (i 0).isLt
  have hi1 : (i 1).val < 1024 := (i 1).isLt
  let C : Fin 1024 := ⟨(i 1).val, hi1⟩
  let B : Fin 8 := ⟨(i 0).val / 256, by omega⟩
  let r := (i 0).val % 256
  have hr : r < 256 := Nat.mod_lt _ (by norm_num)
  have hB : B.val * 256 + r = (i 0).val := by show (i 0).val / 256 * 256 + (i 0).val % 256 = _; omega
  have hBlt := B.isLt
  -- the query row, and the rows of a block
  let Q (x : Fin 64) : ℝ := Z (i 0) (part 0 (hd C x))
  let K (b : ℕ) (hb : b < 8) (s : Fin 256) (x : Fin 64) : ℝ := Z ⟨b * 256 + s.val, by have := s.isLt; omega⟩ (part 1 (hd C x))
  let V (b : ℕ) (hb : b < 8) (s : Fin 256) : ℝ := Z ⟨b * 256 + s.val, by have := s.isLt; omega⟩ (part 2 C)
  let wt (p : Fin 256 → Prop) [DecidablePred p] (b : ℕ) (hb : b < 8) (s : Fin 256) : ℝ :=
    if p s then Real.exp ((∑ x, Q x * K b hb s x) / 8) else 0
  have hb2 : B.val - 2 < 8 := by omega
  have hb1 : B.val - 1 < 8 := by omega
  have e1 : localAtt (R2 Z) i = Att.rowAtt (fun s => if 2 ≤ B.val ∧ r < s.val then (0 : EReal) else ⊥) (fun _ => if 1 ≤ B.val then (0 : EReal) else ⊥)
      (fun s => if s.val ≤ r then (0 : EReal) else ⊥) (fun x => (Q x : EReal))
      (fun s x => (K (B.val - 2) hb2 s x : EReal)) (fun s x => (K (B.val - 1) hb1 s x : EReal)) (fun s x => (K B.val hBlt s x : EReal))
      (fun s => (V (B.val - 2) hb2 s : EReal)) (fun s => (V (B.val - 1) hb1 s : EReal)) (fun s => (V B.val hBlt s : EReal)) := by
    have eK : ∀ (b : ℕ) (hb : b < 8) (s : Fin 256) (x : Fin 64) (p q), R2 Z (ix2 ⟨b * 256 + s.val, p⟩ ⟨1024 + (i 1).val / 64 * 64 + x.val, q⟩) = (K b hb s x : EReal) := by
      intro b hb s x p q
      show ((Z _ _ : ℝ) : EReal) = ((Z _ _ : ℝ) : EReal)
      congr 2
      refine Fin.ext ?_
      show 1024 + (i 1).val / 64 * 64 + x.val = 1 * 1024 + ((i 1).val / 64 * 64 + x.val)
      omega
    have eV : ∀ (b : ℕ) (hb : b < 8) (s : Fin 256) (p q), R2 Z (ix2 ⟨b * 256 + s.val, p⟩ ⟨2048 + (i 1).val, q⟩) = (V b hb s : EReal) := by
      intro b hb s p q
      rfl
    unfold localAtt localAt
    refine Att.rowAtt_congr (fun _ => rfl) (fun _ => rfl) (fun _ => rfl) (fun x => ?_) (fun s x => eK _ hb2 s x _ _) (fun s x => eK _ hb1 s x _ _)
      (fun s x => eK _ hBlt s x _ _) (fun s => eV _ hb2 s _ _) (fun s => eV _ hb1 s _ _) (fun s => eV _ hBlt s _ _)
    show ((Z _ _ : ℝ) : EReal) = ((Z _ _ : ℝ) : EReal)
    congr 2
    · exact Fin.ext hB
    · refine Fin.ext ?_
      show (i 1).val / 64 * 64 + x.val = 0 * 1024 + ((i 1).val / 64 * 64 + x.val)
      omega
  rw [e1]
  unfold Att.rowAtt
  simp only [block_sum (fun s : Fin 256 => 2 ≤ B.val ∧ r < s.val) _ (fun _ => rfl) Q (K (B.val - 2) hb2),
    block_sum (fun _ : Fin 256 => 1 ≤ B.val) _ (fun _ => rfl) Q (K (B.val - 1) hb1),
    block_sum (fun s : Fin 256 => s.val ≤ r) _ (fun _ => rfl) Q (K B.val hBlt), coe_dot, coe_sum, ← EReal.coe_add]
  -- the two sums, joined over the blocks
  have hw (b : Fin 8) (s : Fin 256) : localWt Z (i 0) ⟨b.val * 256 + s.val, by have := b.isLt; have := s.isLt; omega⟩ C
      = if b.val * 256 + s.val ≤ (i 0).val ∧ (i 0).val < b.val * 256 + s.val + 512 then Real.exp ((∑ x, Q x * K b.val b.isLt s x) / 8) else 0 := rfl
  have hz (b : Fin 8) (hb : B.val < b.val ∨ b.val + 2 < B.val) (s : Fin 256) :
      localWt Z (i 0) ⟨b.val * 256 + s.val, by have := b.isLt; have := s.isLt; omega⟩ C = 0 := by
    have hs := s.isLt
    rw [hw, if_neg]
    omega
  have h2 (s : Fin 256) : (if 2 ≤ B.val ∧ r < s.val then Real.exp ((∑ x, Q x * K (B.val - 2) hb2 s x) / 8) else 0)
      = if h : 2 ≤ B.val then localWt Z (i 0) ⟨(B.val - 2) * 256 + s.val, by have := s.isLt; omega⟩ C else 0 := by
    have hs := s.isLt
    by_cases h : 2 ≤ B.val
    · rw [dif_pos h]
      refine Eq.trans ?_ (hw ⟨B.val - 2, hb2⟩ s).symm
      refine if_congr ?_ rfl rfl
      show _ ↔ (B.val - 2) * 256 + s.val ≤ (i 0).val ∧ (i 0).val < (B.val - 2) * 256 + s.val + 512
      omega
    · rw [dif_neg h, if_neg fun hh => h hh.1]
  have h1 (s : Fin 256) : (if 1 ≤ B.val then Real.exp ((∑ x, Q x * K (B.val - 1) hb1 s x) / 8) else 0)
      = if h : 1 ≤ B.val then localWt Z (i 0) ⟨(B.val - 1) * 256 + s.val, by have := s.isLt; omega⟩ C else 0 := by
    have hs := s.isLt
    by_cases h : 1 ≤ B.val
    · rw [dif_pos h, if_pos h]
      refine Eq.trans ?_ (hw ⟨B.val - 1, hb1⟩ s).symm
      refine (if_pos ?_).symm
      show (B.val - 1) * 256 + s.val ≤ (i 0).val ∧ (i 0).val < (B.val - 1) * 256 + s.val + 512
      omega
    · rw [dif_neg h, if_neg h]
  have h0 (s : Fin 256) : (if s.val ≤ r then Real.exp ((∑ x, Q x * K B.val hBlt s x) / 8) else 0)
      = localWt Z (i 0) ⟨B.val * 256 + s.val, by have := s.isLt; omega⟩ C := by
    have hs := s.isLt
    refine Eq.trans ?_ (hw B s).symm
    refine if_congr ?_ rfl rfl
    omega
  have hden := sum_blocks (fun j => localWt Z (i 0) j C) B _ _ _ h2 h1 h0 hz
  have hnum := sum_blocks (fun j => localWt Z (i 0) j C * Z j (part 2 C)) B
    (fun s => (if 2 ≤ B.val ∧ r < s.val then Real.exp ((∑ x, Q x * K (B.val - 2) hb2 s x) / 8) else 0) * V (B.val - 2) hb2 s)
    (fun s => (if 1 ≤ B.val then Real.exp ((∑ x, Q x * K (B.val - 1) hb1 s x) / 8) else 0) * V (B.val - 1) hb1 s)
    (fun s => (if s.val ≤ r then Real.exp ((∑ x, Q x * K B.val hBlt s x) / 8) else 0) * V B.val hBlt s)
    (fun s => by rw [h2]; split_ifs <;> simp [V]) (fun s => by rw [h1]; split_ifs <;> simp [V]) (fun s => by rw [h0])
    (fun b hb s => by rw [hz b hb s, zero_mul])
  rw [hnum, hden]
  have hpos : ∑ j, localWt Z (i 0) j C ≠ 0 := by
    refine ne_of_gt (Finset.sum_pos' (fun j _ => ?_) ⟨i 0, Finset.mem_univ _, ?_⟩)
    · unfold localWt
      split_ifs
      exacts [(Real.exp_pos _).le, le_rfl]
    · unfold localWt
      rw [if_pos (by omega)]
      exact Real.exp_pos _
  rw [div_real hpos]
  rfl

/-- The pooled attention's call. -/
theorem poolAtt_real (Q : Mat 2048 1024) (K V : Mat 192 1024) :
    poolAtt (R2 Q) (R2 (pair K V)) = R2 (attOut (fun i c => (c.val + 1) * 8 ≤ i.val) Q K V) := by
  funext i
  have hi1 : (i 1).val < 1024 := (i 1).isLt
  unfold poolAtt
  refine (Att.maxAtt_congr (q' := fun x => ((Q (i 0) (hd (i 1) x) : ℝ) : EReal)) (k' := fun j x => ((K j (hd (i 1) x) : ℝ) : EReal))
    (w' := fun j => ((V j (i 1) : ℝ) : EReal)) (fun _ => Iff.rfl) (fun x => rfl) (fun j x => ?_) (fun j => ?_)).trans
    (maxAtt_real (by norm_num) _ (fun x => Q (i 0) (hd (i 1) x)) (fun j x => K j (hd (i 1) x)) (fun j => V j (i 1)))
  · exact congrArg _ (pair_left K V j (hd (i 1) x) _ rfl)
  · exact congrArg _ (pair_right K V j (i 1) _ rfl)

/-- The selected attention's call. -/
theorem selAtt_real (y : Fin 2048 → ℝ) (Q : Mat 2048 1024) (K V : Mat 64 1024) :
    selAtt (turn (R2 fun p (_ : Fin 1) => ((sel y p).val : ℝ))) (R2 Q) (R2 (pair K V)) = R2 (attOut (fun i p => (sel y p).val ≤ i.val) Q K V) := by
  funext i
  have hi1 : (i 1).val < 1024 := (i 1).isLt
  unfold selAtt
  refine (Att.maxAtt_congr (m' := fun p => (sel y p).val ≤ (i 0).val) (i2 := fun p => inferInstance) (q' := fun x => ((Q (i 0) (hd (i 1) x) : ℝ) : EReal)) (k' := fun j x => ((K j (hd (i 1) x) : ℝ) : EReal))
    (w' := fun j => ((V j (i 1) : ℝ) : EReal)) (fun p => ?_) (fun x => rfl) (fun j x => ?_) (fun j => ?_)).trans
    (maxAtt_real (by norm_num) _ (fun x => Q (i 0) (hd (i 1) x)) (fun j x => K j (hd (i 1) x)) (fun j => V j (i 1)))
  · show (((sel y p).val : ℝ) : EReal) ≤ (((i 0).val : ℝ) : EReal) ↔ _
    rw [EReal.coe_le_coe_iff, Nat.cast_le]
  · exact congrArg _ (pair_left K V j (hd (i 1) x) _ rfl)
  · exact congrArg _ (pair_right K V j (i 1) _ rfl)

end Cert.KernelIdeal.Value
-- ==== Proof.K6.lean ====
/- The output call: the local branch and the two gated branches, added. -/
module

public import proofs.«01_k».proof.Proof.K0
public import proofs.«01_k».proof.Proof.Gen.KernelIdeal.Frame.Region6
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx6 : ∀ t : Fin cfg6.N, win6_0.index t = ![t.val, 0] ∧ win6_1.index t = ![t.val, 0] ∧ win6_2.index t = ![t.val, 0]
    ∧ win6_3.index t = ![t.val, 0] ∧ win6_4.index t = ![0, 0] ∧ win6_5.index t = ![0, 0] ∧ win6_6.index t = ![0, 0]
    ∧ win6_7.index t = ![0, 0] ∧ win6_8.index t = ![0, 0] ∧ win6_9.index t = ![0, 0] ∧ win6_10.index t = ![0, 0]
    ∧ win6_11.index t = ![0, 0] ∧ win6_12.index t = ![0, 0] ∧ win6_13.index t = ![0, 0] ∧ win6_14.index t = ![t.val, 0] :=
  (by decide +kernel : ∀ t : Fin grid6.N, _)

theorem arr6_14 (c : Dev nD) : (dat6 V c).arrAt 14 cfg6.N = fun i =>
    affine (V c main_v28) (V c main_arg3) (V c main_v31) i
      + Ideal.logistic (affine (V c main_v0) (V c main_arg13) (V c main_v34) i) * affine (V c main_v30_0) (V c main_arg11) (V c main_v32) i
      + Ideal.logistic (affine (V c main_v0) (V c main_arg25) (V c main_v35) i) * affine (V c main_v30_1) (V c main_arg23) (V c main_v33) i := by
  refine (dat6 V c).arrAt_eq_of_covers 14 _ (by decide +kernel) fun t _ y => ?_
  blk_simp
  rw [after6_14]; frame_out
  pointwise [k6_pay1, k6_pay2, k6_pay3, k6_pay4, affine]
  blk_point [iblk6, idx6 t]

end Cert.KernelIdeal.Value

end
-- ==== Proof.KVal.lean ====
/- The kernel's result on real arguments, through all of its calls. -/
module

public import proofs.«01_k».proof.Proof.KReal
public import proofs.«01_k».proof.Proof.K6

@[expose] public section

set_option maxRecDepth 16384

noncomputable section

namespace Cert.KernelIdeal.Value

open Idealize.ShloMosaic Idealize.ShloMosaic.TcCoe Idealize.SL.Sem
open Cert.KernelIdeal Cert.KernelIdeal.Gen
open Cert.Spec Cert.Reals

/-- The launch memory of a core holds the real arguments `A`. -/
structure Holds (A : Args) (m : (ℓ : Loc nD τ sig) → Buf (Elt Ideal) ℓ) (c : Dev nD) : Prop where
  arg0 : m ((c.tc : Thread nD τ).loc main_arg0) = R3 A.X
  arg1 : m ((c.tc : Thread nD τ).loc main_arg1) = R2 A.Wqkv
  arg2 : m ((c.tc : Thread nD τ).loc main_arg2) = R1 A.bqkv
  arg3 : m ((c.tc : Thread nD τ).loc main_arg3) = R2 A.Wlout
  arg4 : m ((c.tc : Thread nD τ).loc main_arg4) = R1 A.blout
  arg5 : m ((c.tc : Thread nD τ).loc main_arg5) = R2 A.Wcq
  arg6 : m ((c.tc : Thread nD τ).loc main_arg6) = R1 A.bcq
  arg7 : m ((c.tc : Thread nD τ).loc main_arg7) = R2 A.Wck
  arg8 : m ((c.tc : Thread nD τ).loc main_arg8) = R1 A.bck
  arg9 : m ((c.tc : Thread nD τ).loc main_arg9) = R2 A.Wcv
  arg10 : m ((c.tc : Thread nD τ).loc main_arg10) = R1 A.bcv
  arg11 : m ((c.tc : Thread nD τ).loc main_arg11) = R2 A.Wcout
  arg12 : m ((c.tc : Thread nD τ).loc main_arg12) = R1 A.bcout
  arg13 : m ((c.tc : Thread nD τ).loc main_arg13) = R2 A.Wgc
  arg14 : m ((c.tc : Thread nD τ).loc main_arg14) = R1 A.bgc
  arg15 : m ((c.tc : Thread nD τ).loc main_arg15) = R2 A.Wimp
  arg16 : m ((c.tc : Thread nD τ).loc main_arg16) = R1 A.bimp
  arg17 : m ((c.tc : Thread nD τ).loc main_arg17) = R2 A.Wtq
  arg18 : m ((c.tc : Thread nD τ).loc main_arg18) = R1 A.btq
  arg19 : m ((c.tc : Thread nD τ).loc main_arg19) = R2 A.Wtk
  arg20 : m ((c.tc : Thread nD τ).loc main_arg20) = R1 A.btk
  arg21 : m ((c.tc : Thread nD τ).loc main_arg21) = R2 A.Wtv
  arg22 : m ((c.tc : Thread nD τ).loc main_arg22) = R1 A.btv
  arg23 : m ((c.tc : Thread nD τ).loc main_arg23) = R2 A.Wtout
  arg24 : m ((c.tc : Thread nD τ).loc main_arg24) = R1 A.btout
  arg25 : m ((c.tc : Thread nD τ).loc main_arg25) = R2 A.Wgt
  arg26 : m ((c.tc : Thread nD τ).loc main_arg26) = R1 A.bgt

variable (m : (ℓ : Loc nD τ sig) → Buf (Elt Ideal) ℓ) (ρ : Dev nD → PrngReg) (c : Dev nD) {A : Args} (H : Holds A m c)

include H

theorem x_1 : W1 m ρ c (Proc.devRef .tc main_v0) = R2 A.X :=
  (h0_v0 (W0 m ρ c)).trans (congrArg flat H.arg0)

theorem v1_1 : W1 m ρ c (Proc.devRef .tc main_v1) = row (R1 A.bqkv) :=
  (h0_v1 (W0 m ρ c)).trans (congrArg row H.arg2)

theorem v2_1 : W1 m ρ c (Proc.devRef .tc main_v2) = row (R1 A.bcq) :=
  (h0_v2 (W0 m ρ c)).trans (congrArg row H.arg6)

theorem v3_1 : W1 m ρ c (Proc.devRef .tc main_v3) = row (R1 A.btq) :=
  (h0_v3 (W0 m ρ c)).trans (congrArg row H.arg18)

theorem v4_1 : W1 m ρ c (Proc.devRef .tc main_v4) = row (R1 A.bimp) :=
  (h0_v4 (W0 m ρ c)).trans (congrArg row H.arg16)

theorem v5_0_2 : W2 m ρ c (Proc.devRef .tc main_v5_0) = R2 (lin A.X A.Wqkv A.bqkv) :=
  by
  have e : W2 m ρ c (Proc.devRef .tc main_v5_0) = affine (W1 m ρ c (Proc.devRef .tc main_v0)) (W1 m ρ c (Proc.devRef .tc main_arg1)) (W1 m ρ c (Proc.devRef .tc main_v1)) :=
    (W2_arr m ρ c 9).trans (arr0_9 (V1 m ρ) c)
  rw [e, x_1 m ρ c H, ((W1_args m ρ c main_arg1 (by decide)).trans H.arg1), v1_1 m ρ c H]
  exact affine_real _ _ _

theorem v5_1_2 : W2 m ρ c (Proc.devRef .tc main_v5_1) = R2 (lin A.X A.Wcq A.bcq) :=
  by
  have e : W2 m ρ c (Proc.devRef .tc main_v5_1) = affine (W1 m ρ c (Proc.devRef .tc main_v0)) (W1 m ρ c (Proc.devRef .tc main_arg5)) (W1 m ρ c (Proc.devRef .tc main_v2)) :=
    (W2_arr m ρ c 10).trans (arr0_10 (V1 m ρ) c)
  rw [e, x_1 m ρ c H, ((W1_args m ρ c main_arg5 (by decide)).trans H.arg5), v2_1 m ρ c H]
  exact affine_real _ _ _

theorem v5_2_2 : W2 m ρ c (Proc.devRef .tc main_v5_2) = R2 (lin A.X A.Wtq A.btq) :=
  by
  have e : W2 m ρ c (Proc.devRef .tc main_v5_2) = affine (W1 m ρ c (Proc.devRef .tc main_v0)) (W1 m ρ c (Proc.devRef .tc main_arg17)) (W1 m ρ c (Proc.devRef .tc main_v3)) :=
    (W2_arr m ρ c 11).trans (arr0_11 (V1 m ρ) c)
  rw [e, x_1 m ρ c H, ((W1_args m ρ c main_arg17 (by decide)).trans H.arg17), v3_1 m ρ c H]
  exact affine_real _ _ _

theorem v5_3_2 : W2 m ρ c (Proc.devRef .tc main_v5_3) = R2 (lin A.X A.Wimp A.bimp) :=
  by
  have e : W2 m ρ c (Proc.devRef .tc main_v5_3) = affine (W1 m ρ c (Proc.devRef .tc main_v0)) (W1 m ρ c (Proc.devRef .tc main_arg15)) (W1 m ρ c (Proc.devRef .tc main_v4)) :=
    (W2_arr m ρ c 12).trans (arr0_12 (V1 m ρ) c)
  rw [e, x_1 m ρ c H, ((W1_args m ρ c main_arg15 (by decide)).trans H.arg15), v4_1 m ρ c H]
  exact affine_real _ _ _

theorem x_2 : W2 m ρ c (Proc.devRef .tc main_v0) = R2 A.X :=
  (W2_of m ρ c main_v0 (by decide)).trans (x_1 m ρ c H)

theorem v15_3 : W3 m ρ c (Proc.devRef .tc main_v15) = poolMat :=
  h1_v15 (W2 m ρ c)

theorem v16_3 : W3 m ρ c (Proc.devRef .tc main_v16) = beside (R2 A.Wck) (R2 A.Wcv) :=
  (h1_v16 (W2 m ρ c)).trans (congrArg₂ beside ((W2_args m ρ c main_arg7 (by decide)).trans H.arg7) ((W2_args m ρ c main_arg9 (by decide)).trans H.arg9))

theorem v18_3 : W3 m ρ c (Proc.devRef .tc main_v18) = besideRow (R1 A.bck) (R1 A.bcv) :=
  (h1_v18 (W2 m ρ c)).trans (congrArg₂ besideRow ((W2_args m ρ c main_arg8 (by decide)).trans H.arg8) ((W2_args m ρ c main_arg10 (by decide)).trans H.arg10))

theorem v19_3 : W3 m ρ c (Proc.devRef .tc main_v19) = top (R2 A.X) :=
  (h1_v19 (W2 m ρ c)).trans (congrArg top (x_2 m ρ c H))

theorem v20_4 : W4 m ρ c (Proc.devRef .tc main_v20) = R2 (pair (lin (comp A.X) A.Wck A.bck) (lin (comp A.X) A.Wcv A.bcv)) :=
  by
  have e : W4 m ρ c (Proc.devRef .tc main_v20) = affine (mprod (W3 m ρ c (Proc.devRef .tc main_v15)) (W3 m ρ c (Proc.devRef .tc main_v19))) (W3 m ρ c (Proc.devRef .tc main_v16)) (W3 m ρ c (Proc.devRef .tc main_v18)) :=
    (W4_arr m ρ c 4).trans (arr1_4 (V3 m ρ) c)
  rw [e, v15_3 m ρ c H, v16_3 m ρ c H, v18_3 m ρ c H, v19_3 m ρ c H, pool_real]
  exact affine_pair _ _ _ _ _

theorem imp_2 : W2 m ρ c (Proc.devRef .tc main_v5_3) = R2 (fun i (_ : Fin 1) => A.imp i) := by
  rw [v5_3_2 m ρ c H]
  funext i
  have h : i 1 = (0 : Fin 1) := Subsingleton.elim (α := Fin 1) _ _
  show ((lin A.X A.Wimp A.bimp (i 0) (i 1) : ℝ) : EReal) = ((lin A.X A.Wimp A.bimp (i 0) 0 : ℝ) : EReal)
  rw [h]

theorem v5_3_5 : W5 m ρ c (Proc.devRef .tc main_v5_3) = R2 (fun i (_ : Fin 1) => A.imp i) :=
  (((W5_of m ρ c main_v5_3 (by decide)).trans (W4_of m ρ c main_v5_3 (by decide))).trans (W3_of m ρ c main_v5_3 (by decide))).trans (imp_2 m ρ c H)

theorem v21_5 : W5 m ρ c (Proc.devRef .tc main_v21) = turn (R2 (fun i (_ : Fin 1) => A.imp i)) :=
  (h2_v21 (W4 m ρ c)).trans (congrArg turn (((W4_of m ρ c main_v5_3 (by decide)).trans (W3_of m ρ c main_v5_3 (by decide))).trans (imp_2 m ρ c H)))

theorem v22_6 : W6 m ρ c (Proc.devRef .tc main_v22) = R2 (fun i (_ : Fin 1) => (Order.rank A.imp i : ℝ)) :=
  by
  have e : W6 m ρ c (Proc.devRef .tc main_v22) = rankCol (W5 m ρ c (Proc.devRef .tc main_v5_3)) (W5 m ρ c (Proc.devRef .tc main_v21)) := (W6_arr m ρ c 2).trans (arr2_2 (V5 m ρ) c)
  rw [e, v5_3_5 m ρ c H, v21_5 m ρ c H]
  exact rank_real _

theorem v26_7 : W7 m ρ c (Proc.devRef .tc main_v26) = turn (R2 (fun i (_ : Fin 1) => (Order.rank A.imp i : ℝ))) :=
  (h3_v26 (W6 m ρ c)).trans (congrArg turn (v22_6 m ρ c H))

theorem v23_7 : W7 m ρ c (Proc.devRef .tc main_v23) = beside (R2 A.Wtk) (R2 A.Wtv) :=
  (h3_v23 (W6 m ρ c)).trans (congrArg₂ beside ((W6_args m ρ c main_arg19 (by decide)).trans H.arg19) ((W6_args m ρ c main_arg21 (by decide)).trans H.arg21))

theorem v25_7 : W7 m ρ c (Proc.devRef .tc main_v25) = besideRow (R1 A.btk) (R1 A.btv) :=
  (h3_v25 (W6 m ρ c)).trans (congrArg₂ besideRow ((W6_args m ρ c main_arg20 (by decide)).trans H.arg20) ((W6_args m ρ c main_arg22 (by decide)).trans H.arg22))

theorem x_7 : W7 m ρ c (Proc.devRef .tc main_v0) = R2 A.X :=
  (((((W7_of m ρ c main_v0 (by decide)).trans (W6_of m ρ c main_v0 (by decide))).trans (W5_of m ρ c main_v0 (by decide))).trans (W4_of m ρ c main_v0 (by decide))).trans (W3_of m ρ c main_v0 (by decide))).trans (x_2 m ρ c H)

theorem v27_0_8 : W8 m ρ c (Proc.devRef .tc main_v27_0) = R2 (pair (lin (picked A.X A.imp) A.Wtk A.btk) (lin (picked A.X A.imp) A.Wtv A.btv)) :=
  by
  have e : W8 m ρ c (Proc.devRef .tc main_v27_0) = affine (slotRow (W7 m ρ c (Proc.devRef .tc main_v26)) (W7 m ρ c (Proc.devRef .tc main_v0))) (W7 m ρ c (Proc.devRef .tc main_v23)) (W7 m ρ c (Proc.devRef .tc main_v25)) :=
    (W8_arr m ρ c 4).trans (arr3_4 (V7 m ρ) c)
  rw [e, v26_7 m ρ c H, x_7 m ρ c H, v23_7 m ρ c H, v25_7 m ρ c H, slotRow_real]
  exact affine_pair _ _ _ _ _

theorem v27_1_8 : W8 m ρ c (Proc.devRef .tc main_v27_1) = R2 (fun p (_ : Fin 1) => ((sel A.imp p).val : ℝ)) :=
  by
  have e : W8 m ρ c (Proc.devRef .tc main_v27_1) = slotPos (W7 m ρ c (Proc.devRef .tc main_v26)) := (W8_arr m ρ c 5).trans (arr3_5 (V7 m ρ) c)
  rw [e, v26_7 m ρ c H]
  exact slotPos_real _

theorem v5_0_8 : W8 m ρ c (Proc.devRef .tc main_v5_0) = R2 (lin A.X A.Wqkv A.bqkv) :=
  ((((((W8_of m ρ c main_v5_0 (by decide)).trans (W7_of m ρ c main_v5_0 (by decide))).trans (W6_of m ρ c main_v5_0 (by decide))).trans (W5_of m ρ c main_v5_0 (by decide))).trans (W4_of m ρ c main_v5_0 (by decide))).trans (W3_of m ρ c main_v5_0 (by decide))).trans (v5_0_2 m ρ c H)

theorem v28_9 : W9 m ρ c (Proc.devRef .tc main_v28) = R2 A.locAtt :=
  by
  have e : W9 m ρ c (Proc.devRef .tc main_v28) = localAtt (W8 m ρ c (Proc.devRef .tc main_v5_0)) := (W9_arr m ρ c 7).trans (arr4_7 (V8 m ρ) c)
  rw [e, v5_0_8 m ρ c H]
  exact local_real _

theorem v29_10 : W10 m ρ c (Proc.devRef .tc main_v29) = turn (R2 (fun p (_ : Fin 1) => ((sel A.imp p).val : ℝ))) :=
  (h5_v29 (W9 m ρ c)).trans (congrArg turn ((W9_of m ρ c main_v27_1 (by decide)).trans (v27_1_8 m ρ c H)))

theorem v5_1_10 : W10 m ρ c (Proc.devRef .tc main_v5_1) = R2 (lin A.X A.Wcq A.bcq) :=
  ((((((((W10_of m ρ c main_v5_1 (by decide)).trans (W9_of m ρ c main_v5_1 (by decide))).trans (W8_of m ρ c main_v5_1 (by decide))).trans (W7_of m ρ c main_v5_1 (by decide))).trans (W6_of m ρ c main_v5_1 (by decide))).trans (W5_of m ρ c main_v5_1 (by decide))).trans (W4_of m ρ c main_v5_1 (by decide))).trans (W3_of m ρ c main_v5_1 (by decide))).trans (v5_1_2 m ρ c H)

theorem v5_2_10 : W10 m ρ c (Proc.devRef .tc main_v5_2) = R2 (lin A.X A.Wtq A.btq) :=
  ((((((((W10_of m ρ c main_v5_2 (by decide)).trans (W9_of m ρ c main_v5_2 (by decide))).trans (W8_of m ρ c main_v5_2 (by decide))).trans (W7_of m ρ c main_v5_2 (by decide))).trans (W6_of m ρ c main_v5_2 (by decide))).trans (W5_of m ρ c main_v5_2 (by decide))).trans (W4_of m ρ c main_v5_2 (by decide))).trans (W3_of m ρ c main_v5_2 (by decide))).trans (v5_2_2 m ρ c H)

theorem v20_10 : W10 m ρ c (Proc.devRef .tc main_v20) = R2 (pair (lin (comp A.X) A.Wck A.bck) (lin (comp A.X) A.Wcv A.bcv)) :=
  ((((((W10_of m ρ c main_v20 (by decide)).trans (W9_of m ρ c main_v20 (by decide))).trans (W8_of m ρ c main_v20 (by decide))).trans (W7_of m ρ c main_v20 (by decide))).trans (W6_of m ρ c main_v20 (by decide))).trans (W5_of m ρ c main_v20 (by decide))).trans (v20_4 m ρ c H)

theorem v27_0_10 : W10 m ρ c (Proc.devRef .tc main_v27_0) = R2 (pair (lin (picked A.X A.imp) A.Wtk A.btk) (lin (picked A.X A.imp) A.Wtv A.btv)) :=
  ((W10_of m ρ c main_v27_0 (by decide)).trans (W9_of m ρ c main_v27_0 (by decide))).trans (v27_0_8 m ρ c H)

theorem v30_0_11 : W11 m ρ c (Proc.devRef .tc main_v30_0) = R2 A.cAtt :=
  by
  have e : W11 m ρ c (Proc.devRef .tc main_v30_0) = poolAtt (W10 m ρ c (Proc.devRef .tc main_v5_1)) (W10 m ρ c (Proc.devRef .tc main_v20)) := (W11_arr m ρ c 7).trans (arr5_7 (V10 m ρ) c)
  rw [e, v5_1_10 m ρ c H, v20_10 m ρ c H]
  exact poolAtt_real _ _ _

theorem v30_1_11 : W11 m ρ c (Proc.devRef .tc main_v30_1) = R2 A.tAtt :=
  by
  have e : W11 m ρ c (Proc.devRef .tc main_v30_1) = selAtt (W10 m ρ c (Proc.devRef .tc main_v29)) (W10 m ρ c (Proc.devRef .tc main_v5_2)) (W10 m ρ c (Proc.devRef .tc main_v27_0)) := (W11_arr m ρ c 8).trans (arr5_8 (V10 m ρ) c)
  rw [e, v29_10 m ρ c H, v5_2_10 m ρ c H, v27_0_10 m ρ c H]
  exact selAtt_real _ _ _ _

theorem v31_12 : W12 m ρ c (Proc.devRef .tc main_v31) = row (R1 A.blout) :=
  (h6_v31 (W11 m ρ c)).trans (congrArg row ((W11_args m ρ c main_arg4 (by decide)).trans H.arg4))

theorem v32_12 : W12 m ρ c (Proc.devRef .tc main_v32) = row (R1 A.bcout) :=
  (h6_v32 (W11 m ρ c)).trans (congrArg row ((W11_args m ρ c main_arg12 (by decide)).trans H.arg12))

theorem v33_12 : W12 m ρ c (Proc.devRef .tc main_v33) = row (R1 A.btout) :=
  (h6_v33 (W11 m ρ c)).trans (congrArg row ((W11_args m ρ c main_arg24 (by decide)).trans H.arg24))

theorem v34_12 : W12 m ρ c (Proc.devRef .tc main_v34) = row (R1 A.bgc) :=
  (h6_v34 (W11 m ρ c)).trans (congrArg row ((W11_args m ρ c main_arg14 (by decide)).trans H.arg14))

theorem v35_12 : W12 m ρ c (Proc.devRef .tc main_v35) = row (R1 A.bgt) :=
  (h6_v35 (W11 m ρ c)).trans (congrArg row ((W11_args m ρ c main_arg26 (by decide)).trans H.arg26))

theorem x_12 : W12 m ρ c (Proc.devRef .tc main_v0) = R2 A.X :=
  (((((W12_of m ρ c main_v0 (by decide)).trans (W11_of m ρ c main_v0 (by decide))).trans (W10_of m ρ c main_v0 (by decide))).trans (W9_of m ρ c main_v0 (by decide))).trans (W8_of m ρ c main_v0 (by decide))).trans (x_7 m ρ c H)

theorem v28_12 : W12 m ρ c (Proc.devRef .tc main_v28) = R2 A.locAtt :=
  (((W12_of m ρ c main_v28 (by decide)).trans (W11_of m ρ c main_v28 (by decide))).trans (W10_of m ρ c main_v28 (by decide))).trans (v28_9 m ρ c H)

theorem v30_0_12 : W12 m ρ c (Proc.devRef .tc main_v30_0) = R2 A.cAtt :=
  (W12_of m ρ c main_v30_0 (by decide)).trans (v30_0_11 m ρ c H)

theorem v30_1_12 : W12 m ρ c (Proc.devRef .tc main_v30_1) = R2 A.tAtt :=
  (W12_of m ρ c main_v30_1 (by decide)).trans (v30_1_11 m ρ c H)

theorem v36_13 : W13 m ρ c (Proc.devRef .tc main_v36) = R2 A.out :=
  by
  have e : W13 m ρ c (Proc.devRef .tc main_v36) = fun i =>
      affine (W12 m ρ c (Proc.devRef .tc main_v28)) (W12 m ρ c (Proc.devRef .tc main_arg3)) (W12 m ρ c (Proc.devRef .tc main_v31)) i
        + Ideal.logistic (affine (W12 m ρ c (Proc.devRef .tc main_v0)) (W12 m ρ c (Proc.devRef .tc main_arg13)) (W12 m ρ c (Proc.devRef .tc main_v34)) i) * affine (W12 m ρ c (Proc.devRef .tc main_v30_0)) (W12 m ρ c (Proc.devRef .tc main_arg11)) (W12 m ρ c (Proc.devRef .tc main_v32)) i
        + Ideal.logistic (affine (W12 m ρ c (Proc.devRef .tc main_v0)) (W12 m ρ c (Proc.devRef .tc main_arg25)) (W12 m ρ c (Proc.devRef .tc main_v35)) i) * affine (W12 m ρ c (Proc.devRef .tc main_v30_1)) (W12 m ρ c (Proc.devRef .tc main_arg23)) (W12 m ρ c (Proc.devRef .tc main_v33)) i :=
    (W13_arr m ρ c 14).trans (arr6_14 (V12 m ρ) c)
  rw [e, v28_12 m ρ c H, v30_0_12 m ρ c H, v30_1_12 m ρ c H, x_12 m ρ c H, v31_12 m ρ c H, v32_12 m ρ c H, v33_12 m ρ c H,
    v34_12 m ρ c H, v35_12 m ρ c H, ((W12_args m ρ c main_arg3 (by decide)).trans H.arg3), ((W12_args m ρ c main_arg11 (by decide)).trans H.arg11), ((W12_args m ρ c main_arg13 (by decide)).trans H.arg13), ((W12_args m ρ c main_arg23 (by decide)).trans H.arg23), ((W12_args m ρ c main_arg25 (by decide)).trans H.arg25),
    affine_real, affine_real, affine_real, affine_real, affine_real]
  funext i
  show ((lin A.locAtt A.Wlout A.blout (i 0) (i 1) : ℝ) : EReal)
      + Ideal.logistic ((lin A.X A.Wgc A.bgc (i 0) (i 1) : ℝ) : EReal) * ((lin A.cAtt A.Wcout A.bcout (i 0) (i 1) : ℝ) : EReal)
      + Ideal.logistic ((lin A.X A.Wgt A.bgt (i 0) (i 1) : ℝ) : EReal) * ((lin A.tAtt A.Wtout A.btout (i 0) (i 1) : ℝ) : EReal)
      = ((A.out (i 0) (i 1) : ℝ) : EReal)
  rw [Ideal.logistic_coe, Ideal.logistic_coe, ← EReal.coe_mul, ← EReal.coe_mul, ← EReal.coe_add, ← EReal.coe_add]
  rfl

/-- The kernel's result is the layer on its real arguments. -/
theorem v37_14 : W14 m ρ c (Proc.devRef .tc main_v37) = R3 A.out :=
  (h7_v37 (W13 m ρ c)).trans (congrArg unflat (v36_13 m ρ c H))

end Cert.KernelIdeal.Value
-- ==== Proof.KRun.lean ====
/- The kernel program's run, read at its result: the contents the last segment leaves. -/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the result the last segment leaves, the arguments as launched, and every counter at zero. -/
theorem run : θ_run defs (onTc (τ := τ) (main (F := F))) ⟨m, fun _ => 0, ρ⟩ (fun r => (∀ c : Dev nD,
      r.2.mem ((c.tc : Thread nD τ).loc main_v37) = W14 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨(fun c =>
      ⟨h c _ (mem_uc main_v37 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c),
       (h c _ (mem_uc main_arg23 (by decide))).trans (W14_main_arg23 m ρ c),
       (h c _ (mem_uc main_arg24 (by decide))).trans (W14_main_arg24 m ρ c),
       (h c _ (mem_uc main_arg25 (by decide))).trans (W14_main_arg25 m ρ c),
       (h c _ (mem_uc main_arg26 (by decide))).trans (W14_main_arg26 m ρ c)⟩), funext fun g => hz g (.inr (no_unscoped g.2))⟩)

end Cert.KernelIdeal.Value
-- ==== Proof.RHost.lean ====
/- Reductions along the last axis, row gathers and the stable top-k, read at an index. -/
module

public import proofs.«01_k».proof.Proof.Order
public import Idealize.ShloMosaic.Lib.Pointwise
public import Idealize.ShloMosaic.Lib.WordCmp

@[expose] public section

noncomputable section

namespace Cert.Host

open Idealize.ShloMosaic

theorem reduce_max_last {n0 n1 n2 n3 : ℕ} (x : FVec Ideal ⟨4, ![n0, n1, n2, n3]⟩ .f32) (k : BitVec 32)
    (h : (⟨4, ![n0, n1, n2, n3]⟩ : Shape).ReducesTo [3] ⟨3, ![n0, n1, n2]⟩) (hu : 0 < (⟨0, ![]⟩ : Shape).numel)
    (a : Fin n0) (b : Fin n1) (c : Fin n2) :
    Host.reduce FloatOps.maximumf x (constant (F := Ideal) ⟨0, ![]⟩ .f32 k) h hu (ix3 a b c)
      = Finset.univ.fold max (Ideal.ofBits .f32 k) fun s => x (ix4 a b c s) := by
  pointwise

theorem reduce_add_last {n0 n1 n2 n3 : ℕ} (x : FVec Ideal ⟨4, ![n0, n1, n2, n3]⟩ .f32)
    (h : (⟨4, ![n0, n1, n2, n3]⟩ : Shape).ReducesTo [3] ⟨3, ![n0, n1, n2]⟩) (hu : 0 < (⟨0, ![]⟩ : Shape).numel)
    (a : Fin n0) (b : Fin n1) (c : Fin n2) :
    Host.reduceAdd x (constant (F := Ideal) ⟨0, ![]⟩ .f32 0x00000000#32) h hu (ix3 a b c)
      = ∑ s, x (ix4 a b c s) := by
  pointwise

/-- The dimension numbers of a gather of whole rows of a one-batch matrix at index pairs. -/
abbrev rowDims (N B n : ℕ)
    (wf : GatherDims.WF ⟨3, ![1, N, B]⟩ ⟨3, ![1, n, 2]⟩ ⟨3, ![1, n, B]⟩ [2] [0, 1] [] [0, 1] [] 2 ![1, 1, B]) :
    GatherDims ⟨3, ![1, N, B]⟩ ⟨3, ![1, n, 2]⟩ ⟨3, ![1, n, B]⟩ where
  offsetDims := [2]
  collapsedSliceDims := [0, 1]
  operandBatchingDims := []
  startIndicesBatchingDims := []
  startIndexMap := [0, 1]
  indexVectorDim := 2
  sliceSizes := ![1, 1, B]
  wf := wf

/-- Row `c` of such a gather is the operand's row whose number the second index word holds. -/
theorem gather_rows {N B n : ℕ} {α : Type} (wf) (x : (⟨3, ![1, N, B]⟩ : Shape).Idx → α) (idx : IVec ⟨3, ![1, n, 2]⟩ 32)
    (c : Fin n) (y : Fin B) (b : Fin N) (hN : N < 2 ^ 31) (hb : idx (ix3 0 c 1) = BitVec.ofNat 32 b.val) :
    Host.gather (rowDims N B n wf) x idx (ix3 0 c y) = x (ix3 0 b y) := by
  unfold Host.gather
  congr 1
  funext a
  refine Fin.ext ?_
  show (rowDims N B n wf).start (ix3 0 c y) idx a + (rowDims N B n wf).batchCoord (ix3 0 c y) a
    + (rowDims N B n wf).offCoord (ix3 0 c y) a = _
  rw [GatherDims.batchCoord_eq_zero _ _ _ List.not_mem_nil]
  match a with
  | ⟨0, _⟩ =>
    rw [GatherDims.offCoord_eq_zero _ _ _ (fun h => ((GatherDims.mem_sKept _ _).mp h).1 (by simp))]
    have h := (rowDims N B n wf).start_le (ix3 0 c y) idx 0
    have h' : (rowDims N B n wf).start (ix3 0 c y) idx 0 ≤ 0 := h
    show (rowDims N B n wf).start (ix3 0 c y) idx 0 + 0 + 0 = 0
    omega
  | ⟨1, _⟩ =>
    rw [GatherDims.offCoord_eq_zero _ _ _ (fun h => ((GatherDims.mem_sKept _ _).mp h).1 (by simp))]
    show (rowDims N B n wf).start (ix3 0 c y) idx 1 + 0 + 0 = b.val
    unfold GatherDims.start
    rw [dif_pos (show (1 : Fin 3) ∈ (rowDims N B n wf).startIndexMap by simp)]
    have hsi : (rowDims N B n wf).siIdx (ix3 0 c y) ⟨List.idxOf (1 : Fin 3) (rowDims N B n wf).startIndexMap,
        List.idxOf_lt_length_iff.2 (by simp)⟩ = ix3 0 c 1 := by
      funext e
      refine Fin.ext ?_
      match e with
      | ⟨0, _⟩ => rfl
      | ⟨1, _⟩ => rfl
      | ⟨2, _⟩ => rfl
    rw [hsi, hb, WordCmp.toInt_ofNat_of_lt (by have := b.isLt; omega)]
    show min b.val (N - 1) + 0 + 0 = b.val
    have := b.isLt
    omega
  | ⟨2, _⟩ =>
    have h2 : (rowDims N B n wf).start (ix3 0 c y) idx 2 = 0 := by
      unfold GatherDims.start
      rw [dif_neg (by simp)]
    show (rowDims N B n wf).start (ix3 0 c y) idx 2 + 0 + (rowDims N B n wf).offCoord (ix3 0 c y) 2 = y.val
    rw [h2, Nat.zero_add]
    rfl

/-- The comparison that orders the entries greater first, on real values. -/
theorem gt_word (a b : ℝ) : (FloatOps.cmpfTotal (F := Ideal) (φ := .f32) .gt (a : EReal) (b : EReal) == 1#1) = decide (b < a) := by
  show (Ideal.cmp .ogt (a : EReal) (b : EReal) == 1#1) = _
  unfold Ideal.cmp
  by_cases h : b < a <;> simp [h]

/-- Index `p` of the stable top-k of real entries is the position of the `p`-th entry in the stable order. -/
theorem topk_index {n k : ℕ} (x : FVec Ideal ⟨2, ![1, n]⟩ .f32) (y : Fin n → ℝ) (hx : ∀ s, x (ix2 0 s) = (y s : EReal))
    (h) (p : Fin k) (hp : p.val < n) :
    (Host.topK ⟨2, ![1, k]⟩ 1 (FloatOps.cmpfTotal (F := Ideal) (φ := .f32) .gt) x h).2 (ix2 0 p)
      = BitVec.ofNat 32 (Order.pick y ⟨p.val, hp⟩).val := by
  have hal : ∀ q : Fin n, ∀ j : (⟨2, ![1, n]⟩ : Shape).Idx, x (j.along 1 q) = (y q : EReal) := by
    intro q j
    rw [← hx]
    congr 1
    funext a
    match a with
    | ⟨0, _⟩ => exact Subsingleton.elim (α := Fin 1) _ _
    | ⟨1, _⟩ => rfl
  have hcmp : ∀ j : (⟨2, ![1, n]⟩ : Shape).Idx, (fun q q' : Fin n => FloatOps.cmpfTotal (F := Ideal) (φ := .f32) .gt (x (j.along 1 q)) (x (j.along 1 q')) == 1#1) = Order.gt y := by
    intro j
    funext q q'
    rw [hal, hal, gt_word]
    rfl
  have key : ∀ j : (⟨2, ![1, n]⟩ : Shape).Idx, (Host.sort2 ⟨2, ![1, n]⟩ 1 (fun l r => FloatOps.cmpfTotal (F := Ideal) (φ := .f32) .gt l.1 r.1) x
      (fun i => iotaInDim ⟨2, ![1, n]⟩ 32 1 i)).2 j = BitVec.ofNat 32 (Order.pick y (j 1)).val := by
    intro j
    show BitVec.ofNat 32 (sortedFrom (fun q q' : Fin n => FloatOps.cmpfTotal (F := Ideal) (φ := .f32) .gt (x (j.along 1 q)) (x (j.along 1 q')) == 1#1) (j 1)).val = _
    rw [hcmp j]
    rfl
  unfold Host.topK
  dsimp only
  have := key (ix2 0 ⟨p.val, hp⟩)
  refine Eq.trans ?_ this
  unfold extractStridedSlice
  show (Host.sort2 ⟨2, ![1, n]⟩ 1 (fun l r => FloatOps.cmpfTotal (F := Ideal) (φ := .f32) .gt l.1 r.1) x
      (fun i => iotaInDim ⟨2, ![1, n]⟩ 32 1 i)).2 _ = _
  refine congrArg (Host.sort2 ⟨2, ![1, n]⟩ 1 (fun l r => FloatOps.cmpfTotal (F := Ideal) (φ := .f32) .gt l.1 r.1) x
      (fun i => iotaInDim ⟨2, ![1, n]⟩ 32 1 i)).2 ?_
  funext a
  match a with
  | ⟨0, _⟩ => exact Subsingleton.elim (α := Fin 1) _ _
  | ⟨1, _⟩ => exact Fin.ext (Nat.zero_add _)

end Cert.Host
-- ==== Proof.RExp.lean ====
/- The reference's softmax weights on real arguments. -/
module

public import proofs.«01_k».proof.Proof.RHost
public import proofs.«01_k».proof.Proof.Spec
public import proofs.«01_k».proof.Proof.Gen.ReferenceIdeal.Run
public import Idealize.ShloMosaic.Lib.Pointwise
public import Idealize.ShloMosaic.Lib.WordCmp
public import Idealize.ShloMosaic.Lib.Tactic.CleanTypes

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.Spec Cert.Reals

theorem exp_row {n : ℕ} (x : FVec Ideal ⟨4, ![1, 16, 2048, n]⟩ .f32) (R : FVec Ideal ⟨3, ![1, 16, 2048]⟩ .f32) (k : BitVec 32) (h1)
    (h2 : (⟨3, ![1, 16, 2048]⟩ : Shape).BroadcastsInDim ⟨4, ![1, 16, 2048, 1]⟩ ![0, 1, 2]) (h3)
    (i0 : Fin 1) (i1 : Fin 16) (i2 : Fin 2048) (i3 : Fin n) :
    Host.exp (subf x (broadcastInDim ⟨4, ![1, 16, 2048, n]⟩ ![0, 1, 2, 3] h1 (broadcastInDim ⟨4, ![1, 16, 2048, 1]⟩ ![0, 1, 2] h2
      (maximumf (broadcastInDim ⟨3, ![1, 16, 2048]⟩ ![] h3 (constant (F := Ideal) ⟨0, ![]⟩ .f32 k)) R)))) (ix4 i0 i1 i2 i3)
      = Ideal.exp (x (ix4 i0 i1 i2 i3) - max (Ideal.ofBits .f32 k) (R (ix3 i0 i1 i2))) := by
  show Ideal.exp (x (ix4 i0 i1 i2 i3) - max (Ideal.ofBits .f32 k) (R _)) = _
  congr 3
  congr 1
  funext a
  match a with
  | ⟨0, _⟩ => exact Subsingleton.elim (α := Fin 1) _ _
  | ⟨1, _⟩ => rfl
  | ⟨2, _⟩ => rfl

theorem div_row {n : ℕ} (x : FVec Ideal ⟨4, ![1, 16, 2048, n]⟩ .f32) (R : FVec Ideal ⟨3, ![1, 16, 2048]⟩ .f32) (h1)
    (h2 : (⟨3, ![1, 16, 2048]⟩ : Shape).BroadcastsInDim ⟨4, ![1, 16, 2048, 1]⟩ ![0, 1, 2])
    (i0 : Fin 1) (i1 : Fin 16) (i2 : Fin 2048) (i3 : Fin n) :
    Host.divf x (broadcastInDim ⟨4, ![1, 16, 2048, n]⟩ ![0, 1, 2, 3] h1 (broadcastInDim ⟨4, ![1, 16, 2048, 1]⟩ ![0, 1, 2] h2 R)) (ix4 i0 i1 i2 i3)
      = Ideal.div (x (ix4 i0 i1 i2 i3)) (R (ix3 i0 i1 i2)) := by
  show Ideal.div (x (ix4 i0 i1 i2 i3)) (R _) = _
  congr 2
  funext a
  match a with
  | ⟨0, _⟩ => exact Subsingleton.elim (α := Fin 1) _ _
  | ⟨1, _⟩ => rfl
  | ⟨2, _⟩ => rfl

/-- The numerators of a softmax row of scores `s`. -/
theorem exp_scores {n : ℕ} (x : FVec Ideal ⟨4, ![1, 16, 2048, n]⟩ .f32) (h1)
    (h2 : (⟨3, ![1, 16, 2048]⟩ : Shape).BroadcastsInDim ⟨4, ![1, 16, 2048, 1]⟩ ![0, 1, 2]) (h3) (hr : (⟨4, ![1, 16, 2048, n]⟩ : Shape).ReducesTo [3] ⟨3, ![1, 16, 2048]⟩) (hu) (h : Fin 16) (i : Fin 2048)
    (s : Fin n → EReal) (hs : ∀ j, x (ix4 0 h i j) = s j) (j : Fin n) :
    Host.exp (subf x (broadcastInDim ⟨4, ![1, 16, 2048, n]⟩ ![0, 1, 2, 3] h1 (broadcastInDim ⟨4, ![1, 16, 2048, 1]⟩ ![0, 1, 2] h2
      (maximumf (broadcastInDim ⟨3, ![1, 16, 2048]⟩ ![] h3 (constant (F := Ideal) ⟨0, ![]⟩ .f32 0xFF800000#32))
        (Host.reduce FloatOps.maximumf x (constant (F := Ideal) ⟨0, ![]⟩ .f32 0xFF800000#32) hr hu))))) (ix4 0 h i j)
      = Ideal.exp (s j - max (Ideal.ofBits .f32 0xFF800000#32) (Finset.univ.fold max (Ideal.ofBits .f32 0xFF800000#32) s)) := by
  refine (exp_row x _ _ h1 h2 h3 0 h i j).trans ?_
  rw [Cert.Host.reduce_max_last x 0xFF800000#32 hr hu 0 h i, hs j]
  simp only [hs]

/-- A softmax row, from its numerators. -/
theorem div_weights {n : ℕ} (x : FVec Ideal ⟨4, ![1, 16, 2048, n]⟩ .f32) (h1)
    (h2 : (⟨3, ![1, 16, 2048]⟩ : Shape).BroadcastsInDim ⟨4, ![1, 16, 2048, 1]⟩ ![0, 1, 2]) (hr : (⟨4, ![1, 16, 2048, n]⟩ : Shape).ReducesTo [3] ⟨3, ![1, 16, 2048]⟩) (hu) (h : Fin 16) (i : Fin 2048)
    (e : Fin n → EReal) (he : ∀ j, x (ix4 0 h i j) = e j) (j : Fin n) :
    Host.divf x (broadcastInDim ⟨4, ![1, 16, 2048, n]⟩ ![0, 1, 2, 3] h1 (broadcastInDim ⟨4, ![1, 16, 2048, 1]⟩ ![0, 1, 2] h2
      (Host.reduceAdd x (constant (F := Ideal) ⟨0, ![]⟩ .f32 0x00000000#32) hr hu))) (ix4 0 h i j)
      = Ideal.div (e j) (∑ j, e j) := by
  refine (div_row x _ h1 h2 0 h i j).trans ?_
  rw [Cert.Host.reduce_add_last x hr hu 0 h i, he j]
  simp only [he]

variable (V0 : Valuation τ sig (Elt Ideal))

theorem v43_read (h : Fin 16) (i : Fin 2048) (s : Fin 2048 → EReal) (hs : ∀ j, res_main_v36 V0 (ix4 0 h i j) = s j) (j : Fin 2048) :
    res_main_v43 V0 (ix4 0 h i j) = Ideal.exp (s j - max (Ideal.ofBits .f32 0xFF800000#32)
      (Finset.univ.fold max (Ideal.ofBits .f32 0xFF800000#32) s)) :=
  exp_scores (res_main_v36 V0) _ _ _ _ _ h i s hs j

theorem v119_read (h : Fin 16) (i : Fin 2048) (s : Fin 192 → EReal) (hs : ∀ j, res_main_v112 V0 (ix4 0 h i j) = s j) (j : Fin 192) :
    res_main_v119 V0 (ix4 0 h i j) = Ideal.exp (s j - max (Ideal.ofBits .f32 0xFF800000#32)
      (Finset.univ.fold max (Ideal.ofBits .f32 0xFF800000#32) s)) :=
  exp_scores (res_main_v112 V0) _ _ _ _ _ h i s hs j

theorem v202_read (h : Fin 16) (i : Fin 2048) (s : Fin 64 → EReal) (hs : ∀ j, res_main_v195 V0 (ix4 0 h i j) = s j) (j : Fin 64) :
    res_main_v202 V0 (ix4 0 h i j) = Ideal.exp (s j - max (Ideal.ofBits .f32 0xFF800000#32)
      (Finset.univ.fold max (Ideal.ofBits .f32 0xFF800000#32) s)) :=
  exp_scores (res_main_v195 V0) _ _ _ _ _ h i s hs j

end Cert.ReferenceIdeal.Value
-- ==== Proof.RRows.lean ====
/- The reference's linear layers and the pooled and the selected rows on real arguments. -/
module

public import proofs.«01_k».proof.Proof.RHost
public import proofs.«01_k».proof.Proof.Spec
public import proofs.«01_k».proof.Proof.Words
public import proofs.«01_k».proof.Proof.Gen.ReferenceIdeal.Run
public import Idealize.ShloMosaic.Lib.Pointwise
public import Idealize.ShloMosaic.Lib.WordCmp
public import Idealize.ShloMosaic.Lib.Affine
public import Idealize.ShloMosaic.Lib.Tactic.CleanTypes

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.Spec Cert.Reals

/-- The buffers hold the real arguments `A`. -/
structure Holds (A : Args) (V0 : Valuation τ sig (Elt Ideal)) : Prop where
  arg0 : V0 (Proc.devRef .tc main_arg0) = R3 A.X
  arg1 : V0 (Proc.devRef .tc main_arg1) = R2 A.Wqkv
  arg2 : V0 (Proc.devRef .tc main_arg2) = R1 A.bqkv
  arg3 : V0 (Proc.devRef .tc main_arg3) = R2 A.Wlout
  arg4 : V0 (Proc.devRef .tc main_arg4) = R1 A.blout
  arg5 : V0 (Proc.devRef .tc main_arg5) = R2 A.Wcq
  arg6 : V0 (Proc.devRef .tc main_arg6) = R1 A.bcq
  arg7 : V0 (Proc.devRef .tc main_arg7) = R2 A.Wck
  arg8 : V0 (Proc.devRef .tc main_arg8) = R1 A.bck
  arg9 : V0 (Proc.devRef .tc main_arg9) = R2 A.Wcv
  arg10 : V0 (Proc.devRef .tc main_arg10) = R1 A.bcv
  arg11 : V0 (Proc.devRef .tc main_arg11) = R2 A.Wcout
  arg12 : V0 (Proc.devRef .tc main_arg12) = R1 A.bcout
  arg13 : V0 (Proc.devRef .tc main_arg13) = R2 A.Wgc
  arg14 : V0 (Proc.devRef .tc main_arg14) = R1 A.bgc
  arg15 : V0 (Proc.devRef .tc main_arg15) = R2 A.Wimp
  arg16 : V0 (Proc.devRef .tc main_arg16) = R1 A.bimp
  arg17 : V0 (Proc.devRef .tc main_arg17) = R2 A.Wtq
  arg18 : V0 (Proc.devRef .tc main_arg18) = R1 A.btq
  arg19 : V0 (Proc.devRef .tc main_arg19) = R2 A.Wtk
  arg20 : V0 (Proc.devRef .tc main_arg20) = R1 A.btk
  arg21 : V0 (Proc.devRef .tc main_arg21) = R2 A.Wtv
  arg22 : V0 (Proc.devRef .tc main_arg22) = R1 A.btv
  arg23 : V0 (Proc.devRef .tc main_arg23) = R2 A.Wtout
  arg24 : V0 (Proc.devRef .tc main_arg24) = R1 A.btout
  arg25 : V0 (Proc.devRef .tc main_arg25) = R2 A.Wgt
  arg26 : V0 (Proc.devRef .tc main_arg26) = R1 A.bgt

/-- Column `x` of head `h`. -/
def hc (h : Fin 16) (x : Fin 64) : Fin 1024 := ⟨h.val * 64 + x.val, by have := h.isLt; have := x.isLt; omega⟩

/-- The head of a column. -/
def headOf (C : Fin 1024) : Fin 16 := ⟨C.val / 64, by have := C.isLt; omega⟩

/-- The scaled dot product of a query row and a key row in head `h`. -/
def hdot {m n : ℕ} (Q : Mat m 1024) (K : Mat n 1024) (i : Fin m) (j : Fin n) (h : Fin 16) : ℝ := (∑ x, Q i (hc h x) * K j (hc h x)) / 8

theorem hc_self (C : Fin 1024) : hc (headOf C) ⟨C.val % 64, Nat.mod_lt _ (by norm_num)⟩ = C := by
  refine Fin.ext ?_
  show C.val / 64 * 64 + C.val % 64 = C.val
  omega

theorem lin_coe {m k n : ℕ} (X : Mat m k) (W : Mat k n) (b : Fin n → ℝ) (i : Fin m) (j : Fin n) :
    ∑ t, (X i t : EReal) * (W t j : EReal) + (b j : EReal) = ((lin X W b i j : ℝ) : EReal) := by
  rw [coe_dot, ← EReal.coe_add]
  rfl

theorem score_coe (Q K : Fin 64 → ℝ) : (∑ x, (Q x : EReal) * (K x : EReal)) * ((1 / 8 : ℝ) : EReal) = (((∑ x, Q x * K x) / 8 : ℝ) : EReal) := by
  rw [coe_dot, ← EReal.coe_mul, mul_one_div]

theorem bits_64 : Ideal.ofBits .f32 0x42800000#32 = ((64 : ℝ) : EReal) := by
  simp [Ideal.ofBits, Ideal.ieee, -EReal.coe_mul]; norm_num

theorem bits_8 : Ideal.ofBits .f32 0x41000000#32 = ((8 : ℝ) : EReal) := by
  simp [Ideal.ofBits, Ideal.ieee, -EReal.coe_mul]; norm_num

theorem bits_1 : Ideal.ofBits .f32 0x3F800000#32 = ((1 : ℝ) : EReal) := by
  simp [Ideal.ofBits, Ideal.ieee, -EReal.coe_mul]; norm_num

theorem v1_real (V0 : Valuation τ sig (Elt Ideal)) : id (res_main_v1 V0) ix0 = ((1 / 8 : ℝ) : EReal) := by
  show Ideal.div (Ideal.ofBits .f32 0x3F800000#32) (Ideal.sqrt (Ideal.ofBits .f32 0x42800000#32)) = _
  rw [bits_64, bits_1, Ideal.sqrt_coe]
  have h : Real.sqrt 64 = 8 := by
    rw [show (64 : ℝ) = 8 * 8 by norm_num]
    exact Real.sqrt_mul_self (by norm_num)
  rw [if_neg (by norm_num : ¬ (64 : ℝ) < 0), h, div_real (by norm_num)]

/-! ### Index words -/

theorem slt_zero_nat (n : ℕ) (h : n < 2 ^ 31) : IntOp.cmpi .slt (BitVec.ofNat 32 n) 0#32 = 0#1 := by
  rw [show (0#32 : BitVec 32) = BitVec.ofNat 32 0 from rfl, WordCmp.cmpi_slt_ofNat (by simpa using h) (by norm_num)]
  simp

theorem wrap_nat (n : ℕ) (h : n < 2 ^ 31) (w : BitVec 32) :
    Scalar.select (IntOp.cmpi .slt (BitVec.ofNat 32 n) 0#32) w (BitVec.ofNat 32 n) = BitVec.ofNat 32 n := by
  rw [slt_zero_nat n h]
  rfl

variable (V0 : Valuation τ sig (Elt Ideal)) {A : Args}

theorem call1_v2_word : res_main_call1_v2 V0 ix0 = 2048#32 := rfl

theorem call1_v4_word (b : Fin 1536) : res_main_call1_v4 V0 (ix1 b) = BitVec.ofNat 32 b.val := by
  have e : res_main_call1_v4 V0 (ix1 b) = IntOp.remsi .host (BitVec.ofNat 32 b.val) (res_main_call1_v2 V0 ix0) := by
    unfold res_main_call1_v4
    clean_types
    pointwise
  rw [e, call1_v2_word]
  have := b.isLt
  have hb : (BitVec.ofNat 32 b.val).toNat = b.val := by simp; omega
  apply BitVec.eq_of_toNat_eq
  have hr := IntOp.toNat_remsi .host (x := BitVec.ofNat 32 b.val) (by rw [hb]; omega) 2048 (by norm_num) (by norm_num)
  rw [hb] at hr ⊢
  refine hr.trans ?_
  omega

theorem v59_word (b : Fin 1536) : res_main_v59 V0 (ix2 0 b) = BitVec.ofNat 32 b.val := by
  have e : res_main_v59 V0 (ix2 0 b) = Scalar.select
      (IntOp.andi
        (IntOp.cmpi .ne (IntOp.cmpi .slt (res_main_call1_v4 V0 (ix1 b)) 0#32) (IntOp.cmpi .slt (res_main_call1_v2 V0 ix0) 0#32))
        (IntOp.cmpi .ne (res_main_call1_v4 V0 (ix1 b)) 0#32))
      (IntOp.addi (res_main_call1_v4 V0 (ix1 b)) (res_main_call1_v2 V0 ix0)) (res_main_call1_v4 V0 (ix1 b)) := by
    unfold res_main_v59
    clean_types
    pointwise
  have hb : b.val < 2 ^ 31 := by have := b.isLt; omega
  rw [e, call1_v4_word, call1_v2_word, slt_zero_nat _ hb]
  have h0 : IntOp.cmpi .ne (0#1) (IntOp.cmpi .slt 2048#32 0#32) = 0#1 := by decide
  rw [h0]
  have h1 : ∀ w : BitVec 1, IntOp.andi 0#1 w = 0#1 := by decide
  rw [h1]
  rfl

/-! ### Linear layers -/

theorem v6_real (H : Holds A V0) (i : Fin 2048) (p : Fin 3) (h : Fin 16) (x : Fin 64) :
    res_main_v6 V0 (ix5 0 i p h x) = ((lin A.X A.Wqkv A.bqkv i (part p (hc h x)) : ℝ) : EReal) := by
  have hl : p.val * 1024 + h.val * 64 + x.val < 3072 := by have := p.isLt; have := h.isLt; have := x.isLt; omega
  have hp : (⟨p.val * 1024 + h.val * 64 + x.val, hl⟩ : Fin 3072) = part p (hc h x) := Fin.ext (Nat.add_assoc _ _ _)
  have hr := lin_coe A.X A.Wqkv A.bqkv i (part p (hc h x))
  rw [← hp] at hr ⊢
  rw [← hr]
  unfold res_main_v6
  rw [H.arg0, H.arg1, H.arg2]
  clean_types
  pointwise
  rfl

theorem v149_real (H : Holds A V0) (i : Fin 2048) : res_main_v149 V0 (ix2 0 i) = ((A.imp i : ℝ) : EReal) := by
  have hr := lin_coe A.X A.Wimp A.bimp i 0
  refine Eq.trans ?_ hr
  unfold res_main_v149
  rw [H.arg0, H.arg15, H.arg16]
  clean_types
  pointwise
  rfl

theorem indices_word (H : Holds A V0) (p : Fin 64) : res_main_indices V0 (ix2 0 p) = BitVec.ofNat 32 (sel A.imp p).val :=
  Cert.Host.topk_index (res_main_v149 V0) A.imp (v149_real V0 H) _ p (by have := p.isLt; omega)

/-! ### Gathered rows -/

theorem rows_1536 (p q : IVec S1x1536x1 32) (h) (c : Fin 1536) :
    concatenate S1x1536x2 2 [⟨S1x1536x1, p⟩, ⟨S1x1536x1, q⟩] h (ix3 0 c 1) = q (ix3 0 c 0) := by
  pointwise

theorem rows_64 (p q : IVec S1x64x1 32) (h) (c : Fin 64) :
    concatenate S1x64x2 2 [⟨S1x64x1, p⟩, ⟨S1x64x1, q⟩] h (ix3 0 c 1) = q (ix3 0 c 0) := by
  pointwise

theorem wrapped_1536 (v : IVec S1x1536 32) (n : ℕ) (hn : n < 2 ^ 31) (c : Fin 1536) (hv : v (ix2 0 c) = BitVec.ofNat 32 n) :
    broadcastInDim S1x1536x1 ![0, 1] bcast_S1x1536_S1x1536x1_0_1
      (select (cmpi .slt v (broadcastInDim S1x1536 ![] bcast_S_S1x1536 (constantI S_ 32 0#32)))
        (addi v (broadcastInDim S1x1536 ![] bcast_S_S1x1536 (constantI S_ 32 2048#32))) v) (ix3 0 c 0) = BitVec.ofNat 32 n := by
  pointwise
  rw [hv]
  exact wrap_nat n hn _

theorem wrapped_64 (v : IVec S1x64 32) (n : ℕ) (hn : n < 2 ^ 31) (c : Fin 64) (hv : v (ix2 0 c) = BitVec.ofNat 32 n) :
    broadcastInDim S1x64x1 ![0, 1] bcast_S1x64_S1x64x1_0_1
      (select (cmpi .slt v (broadcastInDim S1x64 ![] bcast_S_S1x64 (constantI S_ 32 0#32)))
        (addi v (broadcastInDim S1x64 ![] bcast_S_S1x64 (constantI S_ 32 2048#32))) v) (ix3 0 c 0) = BitVec.ofNat 32 n := by
  pointwise
  rw [hv]
  exact wrap_nat n hn _

theorem v166_real (H : Holds A V0) (p : Fin 64) (t : Fin 1024) :
    res_main_v166 V0 (ix3 0 p t) = ((picked A.X A.imp p t : ℝ) : EReal) := by
  unfold res_main_v166
  refine (Cert.Host.gather_rows gather_S1x2048x1024_S1x64x2_S1x64x1024_2_01_n_n_01_2_111024.wf _ _ p t (sel A.imp p) (by norm_num) ?_).trans ?_
  · refine (rows_64 _ _ _ p).trans (wrapped_64 _ _ ?_ p (indices_word V0 H p))
    have := (sel A.imp p).isLt
    omega
  · rw [H.arg0]
    rfl

/-- The rows the pooled branch gathers are the first rows themselves. -/
theorem gather_1536 (H : Holds A V0) (idx : IVec S1x1536x2 32) (b : Fin 1536) (hidx : idx (ix3 0 b 1) = BitVec.ofNat 32 b.val) (t : Fin 1024) :
    Host.gather gather_S1x2048x1024_S1x1536x2_S1x1536x1024_2_01_n_n_01_2_111024 (V0 (Proc.devRef .tc main_arg0)) idx (ix3 0 b t)
      = ((A.X ⟨b.val, by have := b.isLt; omega⟩ t : ℝ) : EReal) := by
  refine (Cert.Host.gather_rows gather_S1x2048x1024_S1x1536x2_S1x1536x1024_2_01_n_n_01_2_111024.wf _ idx b t
    ⟨b.val, by have := b.isLt; omega⟩ (by norm_num) hidx).trans ?_
  rw [H.arg0]
  rfl

theorem v78_real (H : Holds A V0) (c : Fin 192) (t : Fin 1024) : res_main_v78 V0 (ix3 0 c t) = ((comp A.X c t : ℝ) : EReal) := by
  unfold res_main_v78
  generalize hI : concatenate S1x1536x2 2 _ _ = idx
  have hidx : ∀ b : Fin 1536, idx (ix3 0 b 1) = BitVec.ofNat 32 b.val := by
    intro b
    rw [← hI]
    refine (rows_1536 _ _ _ b).trans (wrapped_1536 _ _ ?_ b (v59_word V0 b))
    have := b.isLt
    omega
  have hg := fun b => gather_1536 V0 H idx b (hidx b)
  clear hI hidx
  revert hg
  generalize Host.gather gather_S1x2048x1024_S1x1536x2_S1x1536x1024_2_01_n_n_01_2_111024 (V0 (Proc.devRef .tc main_arg0)) idx = g
  intro hg
  clean_types
  pointwise
  rw [bits_8]
  simp only [hg]
  rw [coe_sum, div_real (by norm_num)]
  rfl

end Cert.ReferenceIdeal.Value
-- ==== Proof.RScore.lean ====
/- The reference's masked scores on real arguments. -/
module

public import proofs.«01_k».proof.Proof.RRows
public import Idealize.ShloMosaic.Lib.Pointwise
public import Idealize.ShloMosaic.Lib.WordCmp
public import Idealize.ShloMosaic.Lib.Tactic.CleanTypes

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.Spec Cert.Reals

variable (V0 : Valuation τ sig (Elt Ideal)) {A : Args}

theorem window_word (i j : ℕ) (hi : i < 2048) (hj : j < 2048) :
    IntOp.andi (IntOp.cmpi .sge (IntOp.subi (BitVec.ofNat 32 i) (BitVec.ofNat 32 j)) 0#32)
      (IntOp.cmpi .slt (IntOp.subi (BitVec.ofNat 32 i) (BitVec.ofNat 32 j)) 512#32) = BitVec.ofBool (decide (j ≤ i ∧ i < j + 512)) := by
  have hw : (IntOp.subi (BitVec.ofNat 32 i) (BitVec.ofNat 32 j)).toInt = (i : ℤ) - j := by
    show (BitVec.ofNat 32 i - BitVec.ofNat 32 j).toInt = _
    rw [BitVec.toInt_sub, WordCmp.toInt_ofNat_of_lt (by omega), WordCmp.toInt_ofNat_of_lt (by omega)]
    rw [Int.bmod_def]
    omega
  have h0 : (0#32 : BitVec 32).toInt = 0 := by decide
  have h5 : (512#32 : BitVec 32).toInt = 512 := by decide
  rw [WordCmp.cmpi_sge_eq, WordCmp.cmpi_slt_eq, hw, h0, h5]
  have ha : ∀ p q : Bool, IntOp.andi (BitVec.ofBool p) (BitVec.ofBool q) = BitVec.ofBool (p && q) := by decide
  rw [ha, ← Bool.decide_and]
  congr 1
  exact decide_eq_decide.2 (by omega)

theorem v21_word (i : Fin 2048) : res_main_v21 V0 (ix2 i 0) = BitVec.ofNat 32 i.val := by
  unfold res_main_v21
  clean_types
  pointwise

theorem v23_word (i : Fin 2048) : res_main_v23 V0 (ix2 0 i) = BitVec.ofNat 32 i.val := by
  unfold res_main_v23
  clean_types
  pointwise

theorem v36_real (H : Holds A V0) (h : Fin 16) (i j : Fin 2048) :
    res_main_v36 V0 (ix4 0 h i j) = if j.val ≤ i.val ∧ i.val < j.val + 512 then
      ((hdot (fun i C => lin A.X A.Wqkv A.bqkv i (part 0 C)) (fun i C => lin A.X A.Wqkv A.bqkv i (part 1 C)) i j h : ℝ) : EReal) else ⊥ := by
  have hv := v6_real V0 H
  have h21 := v21_word V0
  have h23 := v23_word V0
  have h1 := v1_real V0
  unfold res_main_v36
  revert hv h21 h23 h1
  generalize res_main_v6 V0 = z
  generalize res_main_v21 V0 = r
  generalize res_main_v23 V0 = k
  generalize res_main_v1 V0 = w
  intro hv h21 h23 h1
  clean_types
  pointwise
  rw [h21, h23, window_word _ _ i.isLt j.isLt, Words.select_bit, h1]
  simp only [hv]
  rw [score_coe]
  exact congrArg _ bits_neg_inf

theorem fill_real (p : Prop) [Decidable p] (s : ℝ) : (if p then (s : EReal) else Ideal.ofBits .f32 0xCE6E6B28#32)
    = (((if p then s else -1000000000 : ℝ)) : EReal) := by
  rw [bits_fill]
  split_ifs <;> rfl

theorem past_word (i : Fin 2048) (c : Fin 192) :
    IntOp.cmpi .sge (BitVec.ofNat 32 i.val) (IntOp.muli (IntOp.addi (BitVec.ofNat 32 c.val) 1#32) 8#32)
      = BitVec.ofBool (decide ((c.val + 1) * 8 ≤ i.val)) := by
  have e : IntOp.muli (IntOp.addi (BitVec.ofNat 32 c.val) 1#32) 8#32 = BitVec.ofNat 32 ((c.val + 1) * 8) := by
    apply BitVec.eq_of_toNat_eq
    simp [IntOp.addi, IntOp.muli, BitVec.toNat_add, BitVec.toNat_mul]
  have := i.isLt
  have := c.isLt
  rw [e, WordCmp.cmpi_sge_ofNat (by omega) (by omega)]

theorem v112_real (H : Holds A V0) (h : Fin 16) (i : Fin 2048) (c : Fin 192) :
    res_main_v112 V0 (ix4 0 h i c) = (((if (c.val + 1) * 8 ≤ i.val then
      hdot (lin A.X A.Wcq A.bcq) (lin (comp A.X) A.Wck A.bck) i c h else -1000000000 : ℝ)) : EReal) := by
  have hv := v78_real V0 H
  have h1 := v1_real V0
  have eq : ∀ x, ∑ t, R3 A.X (ix3 0 i t) * R2 A.Wcq (ix2 t (hc h x)) + R1 A.bcq (ix1 (hc h x))
      = ((lin A.X A.Wcq A.bcq i (hc h x) : ℝ) : EReal) := fun x => lin_coe A.X A.Wcq A.bcq i (hc h x)
  have ek : ∀ x, ∑ t, ((comp A.X c t : ℝ) : EReal) * R2 A.Wck (ix2 t (hc h x)) + R1 A.bck (ix1 (hc h x))
      = ((lin (comp A.X) A.Wck A.bck c (hc h x) : ℝ) : EReal) := fun x => lin_coe (comp A.X) A.Wck A.bck c (hc h x)
  unfold hc at eq ek
  unfold res_main_v112
  rw [H.arg0, H.arg5, H.arg6, H.arg7, H.arg8]
  revert hv h1 eq ek
  generalize res_main_v78 V0 = z
  generalize res_main_v1 V0 = w
  generalize R3 A.X = x0
  generalize R2 A.Wcq = x1
  generalize R1 A.bcq = x2
  generalize R2 A.Wck = x3
  generalize R1 A.bck = x4
  intro hv h1 eq ek
  clean_types
  pointwise
  rw [past_word, Words.select_bit, h1]
  simp only [hv, eq, ek]
  rw [score_coe]
  exact fill_real _ _

theorem v195_real (H : Holds A V0) (h : Fin 16) (i : Fin 2048) (c : Fin 64) :
    res_main_v195 V0 (ix4 0 h i c) = (((if (sel A.imp c).val ≤ i.val then
      hdot (lin A.X A.Wtq A.btq) (lin (picked A.X A.imp) A.Wtk A.btk) i c h else -1000000000 : ℝ)) : EReal) := by
  have hv := v166_real V0 H
  have h1 := v1_real V0
  have hx := indices_word V0 H c
  have hs := (sel A.imp c).isLt
  have eq : ∀ x, ∑ t, R3 A.X (ix3 0 i t) * R2 A.Wtq (ix2 t (hc h x)) + R1 A.btq (ix1 (hc h x))
      = ((lin A.X A.Wtq A.btq i (hc h x) : ℝ) : EReal) := fun x => lin_coe A.X A.Wtq A.btq i (hc h x)
  have ek : ∀ x, ∑ t, ((picked A.X A.imp c t : ℝ) : EReal) * R2 A.Wtk (ix2 t (hc h x)) + R1 A.btk (ix1 (hc h x))
      = ((lin (picked A.X A.imp) A.Wtk A.btk c (hc h x) : ℝ) : EReal) := fun x => lin_coe (picked A.X A.imp) A.Wtk A.btk c (hc h x)
  unfold hc at eq ek
  unfold res_main_v195
  rw [H.arg0, H.arg17, H.arg18, H.arg19, H.arg20]
  revert hv h1 eq ek hx hs
  generalize sel A.imp c = S
  generalize res_main_v166 V0 = z
  generalize res_main_v1 V0 = w
  generalize res_main_indices V0 = k
  generalize R3 A.X = x0
  generalize R2 A.Wtq = x1
  generalize R1 A.btq = x2
  generalize R2 A.Wtk = x3
  generalize R1 A.btk = x4
  intro hv h1 hx hs eq ek
  clean_types
  pointwise
  have hi := i.isLt
  rw [hx, WordCmp.cmpi_sge_ofNat (by omega) (by omega), Words.select_bit, h1]
  simp only [hv, eq, ek]
  rw [score_coe]
  exact fill_real _ _

end Cert.ReferenceIdeal.Value
-- ==== Proof.RVal.lean ====
/- The reference's three attentions and its result on real arguments. -/
module

public import proofs.«01_k».proof.Proof.RExp
public import proofs.«01_k».proof.Proof.RScore
public import Idealize.ShloMosaic.Lib.Pointwise
public import Idealize.ShloMosaic.Lib.WordCmp
public import Idealize.ShloMosaic.Lib.Tactic.CleanTypes

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.Spec Cert.Reals

theorem mix_2048 (P : FVec Ideal S1x16x2048x2048 .f32) (U : FVec Ideal S1x16x2048x64 .f32) (i : Fin 2048) (C : Fin 1024) :
    shapeCast S1x2048x1024 (transpose S1x2048x16x64 [0, 2, 1, 3] (Host.dotGeneral dot_S1x16x2048x2048_S1x16x2048x64_S1x16x2048x64_3_2_2_3_01_01 none P U)
      transposes_S1x16x2048x64_S1x2048x16x64_0_2_1_3) shapeCasts_S1x2048x16x64_S1x2048x1024 (ix3 0 i C)
      = ∑ j, P (ix4 0 (headOf C) i j) * U (ix4 0 (headOf C) j ⟨C.val % 64, Nat.mod_lt _ (by norm_num)⟩) := by
  unfold headOf
  pointwise

theorem mix_192 (P : FVec Ideal S1x16x2048x192 .f32) (U : FVec Ideal S1x16x192x64 .f32) (i : Fin 2048) (C : Fin 1024) :
    shapeCast S1x2048x1024 (transpose S1x2048x16x64 [0, 2, 1, 3] (Host.dotGeneral dot_S1x16x2048x192_S1x16x192x64_S1x16x2048x64_3_2_2_3_01_01 none P U)
      transposes_S1x16x2048x64_S1x2048x16x64_0_2_1_3) shapeCasts_S1x2048x16x64_S1x2048x1024 (ix3 0 i C)
      = ∑ j, P (ix4 0 (headOf C) i j) * U (ix4 0 (headOf C) j ⟨C.val % 64, Nat.mod_lt _ (by norm_num)⟩) := by
  unfold headOf
  pointwise

theorem values_192 (y : FVec Ideal S1x192x1024 .f32) (W : FVec Ideal S1024x1024 .f32) (b : FVec Ideal S1024 .f32) (h : Fin 16) (j : Fin 192) (x : Fin 64) :
    transpose S1x16x192x64 [0, 2, 1, 3] (shapeCast S1x192x16x64 (addf (Host.dotGeneral dot_S1x192x1024_S1024x1024_S1x192x1024_2_0_01_1_n_n none y W)
      (broadcastInDim S1x192x1024 ![0, 1, 2] bcast_S1x1x1024_S1x192x1024_0_1_2 (broadcastInDim S1x1x1024 ![2] bcast_S1024_S1x1x1024_2 b)))
      shapeCasts_S1x192x1024_S1x192x16x64) transposes_S1x192x16x64_S1x16x192x64_0_2_1_3 (ix4 0 h j x)
      = ∑ t, y (ix3 0 j t) * W (ix2 t (hc h x)) + b (ix1 (hc h x)) := by
  unfold hc
  pointwise

theorem mix_64 (P : FVec Ideal S1x16x2048x64 .f32) (U : FVec Ideal S1x16x64x64 .f32) (i : Fin 2048) (C : Fin 1024) :
    shapeCast S1x2048x1024 (transpose S1x2048x16x64 [0, 2, 1, 3] (Host.dotGeneral dot_S1x16x2048x64_S1x16x64x64_S1x16x2048x64_3_2_2_3_01_01 none P U)
      transposes_S1x16x2048x64_S1x2048x16x64_0_2_1_3) shapeCasts_S1x2048x16x64_S1x2048x1024 (ix3 0 i C)
      = ∑ j, P (ix4 0 (headOf C) i j) * U (ix4 0 (headOf C) j ⟨C.val % 64, Nat.mod_lt _ (by norm_num)⟩) := by
  unfold headOf
  pointwise

theorem values_64 (y : FVec Ideal S1x64x1024 .f32) (W : FVec Ideal S1024x1024 .f32) (b : FVec Ideal S1024 .f32) (h : Fin 16) (j : Fin 64) (x : Fin 64) :
    transpose S1x16x64x64 [0, 2, 1, 3] (shapeCast S1x64x16x64 (addf (Host.dotGeneral dot_S1x64x1024_S1024x1024_S1x64x1024_2_0_01_1_n_n none y W)
      (broadcastInDim S1x64x1024 ![0, 1, 2] bcast_S1x1x1024_S1x64x1024_0_1_2 (broadcastInDim S1x1x1024 ![2] bcast_S1024_S1x1x1024_2 b)))
      shapeCasts_S1x64x1024_S1x64x16x64) transposes_S1x64x16x64_S1x16x64x64_0_2_1_3 (ix4 0 h j x)
      = ∑ t, y (ix3 0 j t) * W (ix2 t (hc h x)) + b (ix1 (hc h x)) := by
  unfold hc
  pointwise

theorem values_2048 (z : FVec Ideal S1x2048x3x16x64 .f32) (h : Fin 16) (j : Fin 2048) (x : Fin 64) :
    transpose S1x16x2048x64 [0, 2, 1, 3] (shapeCast S1x2048x16x64 (extractStridedSlice S1x2048x1x16x64 ![0, 0, 2, 0, 0] z
      slices_S1x2048x3x16x64_S1x2048x1x16x64_0_0_2_0_0) shapeCasts_S1x2048x1x16x64_S1x2048x16x64)
      transposes_S1x2048x16x64_S1x16x2048x64_0_2_1_3 (ix4 0 h j x) = z (ix5 0 j 2 h x) := by
  pointwise

theorem proj_read (x : FVec Ideal S1x2048x1024 .f32) (W : FVec Ideal S1024x1024 .f32) (b : FVec Ideal S1024 .f32) (i : Fin 2048) (C : Fin 1024) :
    addf (Host.dotGeneral dot_S1x2048x1024_S1024x1024_S1x2048x1024_2_0_01_1_n_n none x W)
      (broadcastInDim S1x2048x1024 ![0, 1, 2] bcast_S1x1x1024_S1x2048x1024_0_1_2 (broadcastInDim S1x1x1024 ![2] bcast_S1024_S1x1x1024_2 b)) (ix3 0 i C)
      = ∑ t, x (ix3 0 i t) * W (ix2 t C) + b (ix1 C) := by
  pointwise

theorem gate_real (z : ℝ) : Ideal.ofBits .f32 0x3F800000#32 * Ideal.div (Ideal.ofBits .f32 0x3F800000#32)
    (Ideal.ofBits .f32 0x3F800000#32 + Ideal.exp (-(z : EReal))) = ((gate z : ℝ) : EReal) := by
  rw [bits_1, ← EReal.coe_neg, exp_coe, ← EReal.coe_add, div_real (by positivity), ← EReal.coe_mul]
  unfold gate
  rw [one_mul, one_div]

theorem gated_read (z : FVec Ideal S1x2048x1024 .f32) (i : Fin 2048) (C : Fin 1024) (r : ℝ) (hz : z (ix3 0 i C) = (r : EReal)) :
    mulf (broadcastInDim S1x2048x1024 ![] bcast_S_S1x2048x1024 (constant (F := Ideal) S_ .f32 0x3F800000#32))
      (Host.divf (broadcastInDim S1x2048x1024 ![] bcast_S_S1x2048x1024 (constant (F := Ideal) S_ .f32 0x3F800000#32))
        (addf (broadcastInDim S1x2048x1024 ![] bcast_S_S1x2048x1024 (constant (F := Ideal) S_ .f32 0x3F800000#32)) (Host.exp (Host.negf z)))) (ix3 0 i C)
      = ((gate r : ℝ) : EReal) := by
  rw [← gate_real, ← hz]
  rfl

variable (V0 : Valuation τ sig (Elt Ideal)) {A : Args}

/-- The attention of the windowed branch. -/
def locMix : FVec Ideal S1x2048x1024 .f32 :=
  shapeCast _ (transpose S1x2048x16x64 [0, 2, 1, 3] (Host.dotGeneral (φ₁ := .f32) (φ₂ := .f32) dot_S1x16x2048x2048_S1x16x2048x64_S1x16x2048x64_3_2_2_3_01_01 none (Host.divf (res_main_v43 V0) (broadcastInDim S1x16x2048x2048 ![0, 1, 2, 3] bcast_S1x16x2048x1_S1x16x2048x2048_0_1_2_3 (broadcastInDim S1x16x2048x1 ![0, 1, 2] bcast_S1x16x2048_S1x16x2048x1_0_1_2 (Host.reduceAdd (res_main_v43 V0) (constant S_ .f32 0x00000000#32) reducesTo_S1x16x2048x2048_S1x16x2048_d3 h_S_)))) (transpose S1x16x2048x64 [0, 2, 1, 3] (shapeCast _ (extractStridedSlice S1x2048x1x16x64 ![0, 0, 2, 0, 0] (res_main_v6 V0) slices_S1x2048x3x16x64_S1x2048x1x16x64_0_0_2_0_0) shapeCasts_S1x2048x1x16x64_S1x2048x16x64) transposes_S1x2048x16x64_S1x16x2048x64_0_2_1_3)) transposes_S1x16x2048x64_S1x2048x16x64_0_2_1_3) shapeCasts_S1x2048x16x64_S1x2048x1024

/-- The attention of the pooled branch. -/
def poolMix : FVec Ideal S1x2048x1024 .f32 :=
  shapeCast _ (transpose S1x2048x16x64 [0, 2, 1, 3] (Host.dotGeneral (φ₁ := .f32) (φ₂ := .f32) dot_S1x16x2048x192_S1x16x192x64_S1x16x2048x64_3_2_2_3_01_01 none (Host.divf (res_main_v119 V0) (broadcastInDim S1x16x2048x192 ![0, 1, 2, 3] bcast_S1x16x2048x1_S1x16x2048x192_0_1_2_3 (broadcastInDim S1x16x2048x1 ![0, 1, 2] bcast_S1x16x2048_S1x16x2048x1_0_1_2 (Host.reduceAdd (res_main_v119 V0) (constant S_ .f32 0x00000000#32) reducesTo_S1x16x2048x192_S1x16x2048_d3 h_S_)))) (transpose S1x16x192x64 [0, 2, 1, 3] (shapeCast _ (addf (Host.dotGeneral (φ₁ := .f32) (φ₂ := .f32) dot_S1x192x1024_S1024x1024_S1x192x1024_2_0_01_1_n_n none (res_main_v78 V0) (V0 (Proc.devRef .tc main_arg9))) (broadcastInDim S1x192x1024 ![0, 1, 2] bcast_S1x1x1024_S1x192x1024_0_1_2 (broadcastInDim S1x1x1024 ![2] bcast_S1024_S1x1x1024_2 (V0 (Proc.devRef .tc main_arg10))))) shapeCasts_S1x192x1024_S1x192x16x64) transposes_S1x192x16x64_S1x16x192x64_0_2_1_3)) transposes_S1x16x2048x64_S1x2048x16x64_0_2_1_3) shapeCasts_S1x2048x16x64_S1x2048x1024

/-- The attention of the selected branch. -/
def selMix : FVec Ideal S1x2048x1024 .f32 :=
  shapeCast _ (transpose S1x2048x16x64 [0, 2, 1, 3] (Host.dotGeneral (φ₁ := .f32) (φ₂ := .f32) dot_S1x16x2048x64_S1x16x64x64_S1x16x2048x64_3_2_2_3_01_01 none (Host.divf (res_main_v202 V0) (broadcastInDim S1x16x2048x64 ![0, 1, 2, 3] bcast_S1x16x2048x1_S1x16x2048x64_0_1_2_3 (broadcastInDim S1x16x2048x1 ![0, 1, 2] bcast_S1x16x2048_S1x16x2048x1_0_1_2 (Host.reduceAdd (res_main_v202 V0) (constant S_ .f32 0x00000000#32) reducesTo_S1x16x2048x64_S1x16x2048_d3 h_S_)))) (transpose S1x16x64x64 [0, 2, 1, 3] (shapeCast _ (addf (Host.dotGeneral (φ₁ := .f32) (φ₂ := .f32) dot_S1x64x1024_S1024x1024_S1x64x1024_2_0_01_1_n_n none (res_main_v166 V0) (V0 (Proc.devRef .tc main_arg21))) (broadcastInDim S1x64x1024 ![0, 1, 2] bcast_S1x1x1024_S1x64x1024_0_1_2 (broadcastInDim S1x1x1024 ![2] bcast_S1024_S1x1x1024_2 (V0 (Proc.devRef .tc main_arg22))))) shapeCasts_S1x64x1024_S1x64x16x64) transposes_S1x64x16x64_S1x16x64x64_0_2_1_3)) transposes_S1x16x2048x64_S1x2048x16x64_0_2_1_3) shapeCasts_S1x2048x16x64_S1x2048x1024

theorem v227_eq : res_main_v227 V0 = addf (addf (addf (Host.dotGeneral (φ₁ := .f32) (φ₂ := .f32) dot_S1x2048x1024_S1024x1024_S1x2048x1024_2_0_01_1_n_n none (locMix V0) (V0 (Proc.devRef .tc main_arg3))) (broadcastInDim S1x2048x1024 ![0, 1, 2] bcast_S1x1x1024_S1x2048x1024_0_1_2 (broadcastInDim S1x1x1024 ![2] bcast_S1024_S1x1x1024_2 (V0 (Proc.devRef .tc main_arg4))))) (mulf (mulf (broadcastInDim S1x2048x1024 ![] bcast_S_S1x2048x1024 (constant S_ .f32 0x3F800000#32)) (Host.divf (broadcastInDim S1x2048x1024 ![] bcast_S_S1x2048x1024 (constant S_ .f32 0x3F800000#32)) (addf (broadcastInDim S1x2048x1024 ![] bcast_S_S1x2048x1024 (constant S_ .f32 0x3F800000#32)) (Host.exp (Host.negf (addf (Host.dotGeneral (φ₁ := .f32) (φ₂ := .f32) dot_S1x2048x1024_S1024x1024_S1x2048x1024_2_0_01_1_n_n none (V0 (Proc.devRef .tc main_arg0)) (V0 (Proc.devRef .tc main_arg13))) (broadcastInDim S1x2048x1024 ![0, 1, 2] bcast_S1x1x1024_S1x2048x1024_0_1_2 (broadcastInDim S1x1x1024 ![2] bcast_S1024_S1x1x1024_2 (V0 (Proc.devRef .tc main_arg14)))))))))) (addf (Host.dotGeneral (φ₁ := .f32) (φ₂ := .f32) dot_S1x2048x1024_S1024x1024_S1x2048x1024_2_0_01_1_n_n none (poolMix V0) (V0 (Proc.devRef .tc main_arg11))) (broadcastInDim S1x2048x1024 ![0, 1, 2] bcast_S1x1x1024_S1x2048x1024_0_1_2 (broadcastInDim S1x1x1024 ![2] bcast_S1024_S1x1x1024_2 (V0 (Proc.devRef .tc main_arg12))))))) (mulf (mulf (broadcastInDim S1x2048x1024 ![] bcast_S_S1x2048x1024 (constant S_ .f32 0x3F800000#32)) (Host.divf (broadcastInDim S1x2048x1024 ![] bcast_S_S1x2048x1024 (constant S_ .f32 0x3F800000#32)) (addf (broadcastInDim S1x2048x1024 ![] bcast_S_S1x2048x1024 (constant S_ .f32 0x3F800000#32)) (Host.exp (Host.negf (addf (Host.dotGeneral (φ₁ := .f32) (φ₂ := .f32) dot_S1x2048x1024_S1024x1024_S1x2048x1024_2_0_01_1_n_n none (V0 (Proc.devRef .tc main_arg0)) (V0 (Proc.devRef .tc main_arg25))) (broadcastInDim S1x2048x1024 ![0, 1, 2] bcast_S1x1x1024_S1x2048x1024_0_1_2 (broadcastInDim S1x1x1024 ![2] bcast_S1024_S1x1x1024_2 (V0 (Proc.devRef .tc main_arg26)))))))))) (addf (Host.dotGeneral (φ₁ := .f32) (φ₂ := .f32) dot_S1x2048x1024_S1024x1024_S1x2048x1024_2_0_01_1_n_n none (selMix V0) (V0 (Proc.devRef .tc main_arg23))) (broadcastInDim S1x2048x1024 ![0, 1, 2] bcast_S1x1x1024_S1x2048x1024_0_1_2 (broadcastInDim S1x1x1024 ![2] bcast_S1024_S1x1x1024_2 (V0 (Proc.devRef .tc main_arg24)))))) := rfl

theorem locMix_real (H : Holds A V0) (i : Fin 2048) (C : Fin 1024) : locMix V0 (ix3 0 i C) = ((A.locAtt i C : ℝ) : EReal) := by
  have hv : ∀ j, transpose S1x16x2048x64 [0, 2, 1, 3] (shapeCast S1x2048x16x64 (extractStridedSlice S1x2048x1x16x64 ![0, 0, 2, 0, 0] (res_main_v6 V0)
      slices_S1x2048x3x16x64_S1x2048x1x16x64_0_0_2_0_0) shapeCasts_S1x2048x1x16x64_S1x2048x16x64)
      transposes_S1x2048x16x64_S1x16x2048x64_0_2_1_3 (ix4 0 (headOf C) j ⟨C.val % 64, Nat.mod_lt _ (by norm_num)⟩)
      = ((lin A.X A.Wqkv A.bqkv j (part 2 C) : ℝ) : EReal) := fun j => by
    refine (values_2048 _ _ _ _).trans ((v6_real V0 H j 2 (headOf C) _).trans ?_)
    rw [hc_self]
  unfold locMix
  refine (mix_2048 _ _ i C).trans ?_
  refine Eq.trans (Finset.sum_congr rfl fun j _ => congrArg₂ _ (div_weights _ _ _ _ _ (headOf C) i _
    (v43_read V0 (headOf C) i _ (fun j => v36_real V0 H (headOf C) i j)) j) (hv j)) ?_
  refine softmax_real (fun j : Fin 2048 => j.val ≤ i.val ∧ i.val < j.val + 512) _ _ ⟨i, le_rfl, by omega⟩ _ (fun j => rfl) _ rfl

theorem poolMix_real (H : Holds A V0) (i : Fin 2048) (C : Fin 1024) : poolMix V0 (ix3 0 i C) = ((A.cAtt i C : ℝ) : EReal) := by
  have hv : ∀ j, transpose S1x16x192x64 [0, 2, 1, 3] (shapeCast S1x192x16x64 (addf (Host.dotGeneral dot_S1x192x1024_S1024x1024_S1x192x1024_2_0_01_1_n_n none
      (res_main_v78 V0) (V0 (Proc.devRef .tc main_arg9)))
      (broadcastInDim S1x192x1024 ![0, 1, 2] bcast_S1x1x1024_S1x192x1024_0_1_2 (broadcastInDim S1x1x1024 ![2] bcast_S1024_S1x1x1024_2
        (V0 (Proc.devRef .tc main_arg10))))) shapeCasts_S1x192x1024_S1x192x16x64) transposes_S1x192x16x64_S1x16x192x64_0_2_1_3
      (ix4 0 (headOf C) j ⟨C.val % 64, Nat.mod_lt _ (by norm_num)⟩)
      = ((lin (comp A.X) A.Wcv A.bcv j C : ℝ) : EReal) := fun j => by
    refine (values_192 _ _ _ _ _ _).trans ?_
    rw [hc_self, H.arg9, H.arg10]
    simp only [v78_real V0 H]
    exact lin_coe (comp A.X) A.Wcv A.bcv j C
  unfold poolMix
  refine (mix_192 _ _ i C).trans ?_
  refine Eq.trans (Finset.sum_congr rfl fun j _ => congrArg₂ _ (div_weights _ _ _ _ _ (headOf C) i _
    (v119_read V0 (headOf C) i _ (fun j => v112_real V0 H (headOf C) i j)) j) (hv j)) ?_
  refine (softmax_real (fun _ : Fin 192 => True) _ _ ⟨⟨0, by norm_num⟩, trivial⟩ _ (fun j => (if_pos trivial).symm) _ rfl).trans ?_
  simp only [if_true]
  rfl

theorem selMix_real (H : Holds A V0) (i : Fin 2048) (C : Fin 1024) : selMix V0 (ix3 0 i C) = ((A.tAtt i C : ℝ) : EReal) := by
  have hv : ∀ j, transpose S1x16x64x64 [0, 2, 1, 3] (shapeCast S1x64x16x64 (addf (Host.dotGeneral dot_S1x64x1024_S1024x1024_S1x64x1024_2_0_01_1_n_n none
      (res_main_v166 V0) (V0 (Proc.devRef .tc main_arg21)))
      (broadcastInDim S1x64x1024 ![0, 1, 2] bcast_S1x1x1024_S1x64x1024_0_1_2 (broadcastInDim S1x1x1024 ![2] bcast_S1024_S1x1x1024_2
        (V0 (Proc.devRef .tc main_arg22))))) shapeCasts_S1x64x1024_S1x64x16x64) transposes_S1x64x16x64_S1x16x64x64_0_2_1_3
      (ix4 0 (headOf C) j ⟨C.val % 64, Nat.mod_lt _ (by norm_num)⟩)
      = ((lin (picked A.X A.imp) A.Wtv A.btv j C : ℝ) : EReal) := fun j => by
    refine (values_64 _ _ _ _ _ _).trans ?_
    rw [hc_self, H.arg21, H.arg22]
    simp only [v166_real V0 H]
    exact lin_coe (picked A.X A.imp) A.Wtv A.btv j C
  unfold selMix
  refine (mix_64 _ _ i C).trans ?_
  refine Eq.trans (Finset.sum_congr rfl fun j _ => congrArg₂ _ (div_weights _ _ _ _ _ (headOf C) i _
    (v202_read V0 (headOf C) i _ (fun j => v195_real V0 H (headOf C) i j)) j) (hv j)) ?_
  refine (softmax_real (fun _ : Fin 64 => True) _ _ ⟨⟨0, by norm_num⟩, trivial⟩ _ (fun j => (if_pos trivial).symm) _ rfl).trans ?_
  simp only [if_true]
  rfl

/-- The reference's result is the layer on its real arguments. -/
theorem v227_real (H : Holds A V0) : res_main_v227 V0 = R3 A.out := by
  funext q
  obtain ⟨i, C, rfl⟩ : ∃ (i : Fin 2048) (C : Fin 1024), q = ix3 0 i C := ⟨q 1, q 2, by
    funext a
    match a with
    | ⟨0, _⟩ => exact Subsingleton.elim (α := Fin 1) _ _
    | ⟨1, _⟩ => rfl
    | ⟨2, _⟩ => rfl⟩
  have proj : ∀ (x : FVec Ideal S1x2048x1024 .f32) (M : Mat 2048 1024) (hx : ∀ i C, x (ix3 0 i C) = ((M i C : ℝ) : EReal))
      (W : FVec Ideal S1024x1024 .f32) (W' : Mat 1024 1024) (hW : W = R2 W') (b : FVec Ideal S1024 .f32) (b' : Fin 1024 → ℝ) (hb : b = R1 b'),
      addf (Host.dotGeneral dot_S1x2048x1024_S1024x1024_S1x2048x1024_2_0_01_1_n_n none x W)
        (broadcastInDim S1x2048x1024 ![0, 1, 2] bcast_S1x1x1024_S1x2048x1024_0_1_2 (broadcastInDim S1x1x1024 ![2] bcast_S1024_S1x1x1024_2 b)) (ix3 0 i C)
        = ((lin M W' b' i C : ℝ) : EReal) := by
    intro x M hx W W' hW b b' hb
    rw [proj_read, hW, hb]
    simp only [hx]
    exact lin_coe M W' b' i C
  have hX : ∀ i C, (V0 (Proc.devRef .tc main_arg0)) (ix3 0 i C) = ((A.X i C : ℝ) : EReal) := fun i C => by
    rw [H.arg0]
    rfl
  rw [v227_eq]
  have hl := proj (locMix V0) A.locAtt (locMix_real V0 H) _ _ H.arg3 _ _ H.arg4
  have hp := proj (poolMix V0) A.cAtt (poolMix_real V0 H) _ _ H.arg11 _ _ H.arg12
  have hs := proj (selMix V0) A.tAtt (selMix_real V0 H) _ _ H.arg23 _ _ H.arg24
  have hgp := gated_read _ i C _ (proj _ A.X hX _ _ H.arg13 _ _ H.arg14)
  have hgs := gated_read _ i C _ (proj _ A.X hX _ _ H.arg25 _ _ H.arg26)
  refine (congrArg₂ (· + ·) (congrArg₂ (· + ·) hl (congrArg₂ (· * ·) hgp hp)) (congrArg₂ (· * ·) hgs hs)).trans ?_
  show ((lin A.locAtt A.Wlout A.blout i C : ℝ) : EReal)
      + ((gate (lin A.X A.Wgc A.bgc i C) : ℝ) : EReal) * ((lin A.cAtt A.Wcout A.bcout i C : ℝ) : EReal)
      + ((gate (lin A.X A.Wgt A.bgt i C) : ℝ) : EReal) * ((lin A.tAtt A.Wtout A.btout i C : ℝ) : EReal)
      = ((A.out i C : ℝ) : EReal)
  rw [← EReal.coe_mul, ← EReal.coe_mul, ← EReal.coe_add, ← EReal.coe_add]
  rfl

end Cert.ReferenceIdeal.Value
-- ==== Proof.Algebraic.lean ====
/- Kernel and reference compute the same layer on finite arguments. -/
module

public import proofs.«01_k».proof.Defs
public import proofs.«01_k».proof.Proof.Finite
public import proofs.«01_k».proof.Proof.KVal
public import proofs.«01_k».proof.Proof.KRun
public import proofs.«01_k».proof.Proof.RVal

@[expose] public section

noncomputable section

namespace Cert.Proof

open Idealize.ShloMosaic Idealize.ShloMosaic.TcCoe Idealize.SL.Sem
open Cert.Spec

theorem real1 {n : ℕ} {a : (⟨1, ![n]⟩ : Shape).Idx → EReal} (h : AllReal a) : ∃ b : Fin n → ℝ, a = R1 b := by
  obtain ⟨r, rfl⟩ := h
  refine ⟨fun i => r (ix1 i), funext fun i => congrArg (fun q => (r q : EReal)) ?_⟩
  funext a
  match a with
  | ⟨0, _⟩ => rfl

theorem real2 {m n : ℕ} {a : (⟨2, ![m, n]⟩ : Shape).Idx → EReal} (h : AllReal a) : ∃ M : Mat m n, a = R2 M := by
  obtain ⟨r, rfl⟩ := h
  refine ⟨fun i j => r (ix2 i j), funext fun i => congrArg (fun q => (r q : EReal)) ?_⟩
  funext a
  match a with
  | ⟨0, _⟩ => rfl
  | ⟨1, _⟩ => rfl

theorem real3 {m n : ℕ} {a : (⟨3, ![1, m, n]⟩ : Shape).Idx → EReal} (h : AllReal a) : ∃ M : Mat m n, a = R3 M := by
  obtain ⟨r, rfl⟩ := h
  refine ⟨fun i j => r (ix3 0 i j), funext fun i => congrArg (fun q => (r q : EReal)) ?_⟩
  funext a
  match a with
  | ⟨0, _⟩ => exact Subsingleton.elim (α := Fin 1) _ _
  | ⟨1, _⟩ => rfl
  | ⟨2, _⟩ => rfl

/-- Where the precondition holds, each core's arguments are real. -/
theorem holds_of_pre (m : (ℓ : Loc Cert.KernelIdeal.nD Cert.KernelIdeal.τ Cert.KernelIdeal.sig) → Buf (Elt Ideal) ℓ)
    (h : Pre_KernelIdeal_finite (hPre_finite := preFacts) m) (c : Dev Cert.KernelIdeal.nD) :
    ∃ A : Args, Cert.KernelIdeal.Value.Holds A m c := by
  haveI := preFacts
  obtain ⟨⟨h0, h1, h2, h15, h16⟩, ⟨h3, h5, h7, h9, h11, h13, h17, h19, h21, h23, h25⟩, ⟨h4, h6, h8, h10, h12, h14, h18, h20, h22, h24, h26⟩⟩ := args_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (h c)
  obtain ⟨X, e0⟩ := real3 h0
  obtain ⟨Wqkv, e1⟩ := real2 h1
  obtain ⟨bqkv, e2⟩ := real1 h2
  obtain ⟨Wlout, e3⟩ := real2 h3
  obtain ⟨blout, e4⟩ := real1 h4
  obtain ⟨Wcq, e5⟩ := real2 h5
  obtain ⟨bcq, e6⟩ := real1 h6
  obtain ⟨Wck, e7⟩ := real2 h7
  obtain ⟨bck, e8⟩ := real1 h8
  obtain ⟨Wcv, e9⟩ := real2 h9
  obtain ⟨bcv, e10⟩ := real1 h10
  obtain ⟨Wcout, e11⟩ := real2 h11
  obtain ⟨bcout, e12⟩ := real1 h12
  obtain ⟨Wgc, e13⟩ := real2 h13
  obtain ⟨bgc, e14⟩ := real1 h14
  obtain ⟨Wimp, e15⟩ := real2 h15
  obtain ⟨bimp, e16⟩ := real1 h16
  obtain ⟨Wtq, e17⟩ := real2 h17
  obtain ⟨btq, e18⟩ := real1 h18
  obtain ⟨Wtk, e19⟩ := real2 h19
  obtain ⟨btk, e20⟩ := real1 h20
  obtain ⟨Wtv, e21⟩ := real2 h21
  obtain ⟨btv, e22⟩ := real1 h22
  obtain ⟨Wtout, e23⟩ := real2 h23
  obtain ⟨btout, e24⟩ := real1 h24
  obtain ⟨Wgt, e25⟩ := real2 h25
  obtain ⟨bgt, e26⟩ := real1 h26
  exact ⟨⟨X, Wqkv, bqkv, Wlout, blout, Wcq, bcq, Wck, bck, Wcv, bcv, Wcout, bcout, Wgc, bgc, Wimp, bimp, Wtq, btq, Wtk, btk, Wtv, btv, Wtout, btout, Wgt, bgt⟩, ⟨e0, e1, e2, e3, e4, e5, e6, e7, e8, e9, e10, e11, e12, e13, e14, e15, e16, e17, e18, e19, e20, e21, e22, e23, e24, e25, e26⟩⟩

theorem algebraic : Cert.algebraic_KernelIdeal_ReferenceIdeal_pre_finite (hKernelIdeal := Cert.KernelIdeal.Gen.facts)
    (hReferenceIdeal := Cert.ReferenceIdeal.Gen.facts) (hPre_finite := preFacts) := by
  intro m ρ m' ρ' hpre hagree
  choose A hA using holds_of_pre m hpre
  refine ⟨fun c => R3 (A c).out, ?_, ?_⟩
  · refine (θ_run Cert.KernelIdeal.defs _ _).mono (fun r h c => ⟨((h.1 c).1).trans ?_, (h.1 c).2⟩) (Cert.KernelIdeal.Value.run m ρ)
    exact Cert.KernelIdeal.Value.v37_14 m ρ c (hA c)
  · refine (θ_run Cert.ReferenceIdeal.defs _ _).mono (fun r h c => ⟨((h c).1).trans ?_, (h c).2⟩) (Cert.ReferenceIdeal.Value.run (F := Ideal) m' ρ')
    obtain ⟨g0, g1, g2, g3, g4, g5, g6, g7, g8, g9, g10, g11, g12, g13, g14, g15, g16, g17, g18, g19, g20, g21, g22, g23, g24, g25, g26⟩ := hagree c
    exact Cert.ReferenceIdeal.Value.v227_real _ ⟨g0.trans (hA c).arg0, g1.trans (hA c).arg1, g2.trans (hA c).arg2, g3.trans (hA c).arg3, g4.trans (hA c).arg4, g5.trans (hA c).arg5, g6.trans (hA c).arg6, g7.trans (hA c).arg7, g8.trans (hA c).arg8, g9.trans (hA c).arg9, g10.trans (hA c).arg10, g11.trans (hA c).arg11, g12.trans (hA c).arg12, g13.trans (hA c).arg13, g14.trans (hA c).arg14, g15.trans (hA c).arg15, g16.trans (hA c).arg16, g17.trans (hA c).arg17, g18.trans (hA c).arg18, g19.trans (hA c).arg19, g20.trans (hA c).arg20, g21.trans (hA c).arg21, g22.trans (hA c).arg22, g23.trans (hA c).arg23, g24.trans (hA c).arg24, g25.trans (hA c).arg25, g26.trans (hA c).arg26⟩

end Cert.Proof
-- ==== Proof.lean ====
/- The proof of the claims (Defs.lean): the frames and the statement about the named constant (Proof/Frames.lean), and the
   equality of kernel and reference on finite arguments (Proof/Algebraic.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The frame of the kernel at ideal floats, under the precondition. -/
theorem frame_kernelIdeal_pre : Cert.quiescent_KernelIdeal_pre_finite (hKernelIdeal := Cert.KernelIdeal.Gen.facts) (hPre_finite := preFacts) :=
  fun m ρ _ => frame_kernelIdeal m ρ trivial

/-- The frame of the reference at ideal floats, under the precondition. -/
theorem frame_referenceIdeal_pre :
    Cert.quiescent_ReferenceIdeal_pre_finite (hReferenceIdeal := Cert.ReferenceIdeal.Gen.facts) (hPre_finite := preFacts) :=
  fun m ρ _ => frame_referenceIdeal m ρ trivial

theorem claim : Cert.Claim :=
  ⟨Cert.Kernel.Gen.facts, Cert.KernelIdeal.Gen.facts, Cert.ReferenceIdeal.Gen.facts, preFacts,
    frame_kernel, frame_kernelIdeal, frame_kernelIdeal_pre, frame_referenceIdeal, frame_referenceIdeal_pre, preserves_mask, algebraic⟩

end Cert.Proof

end
